-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![4, 256, 512]⟩ ⟨3, ![128, 256, 512]⟩ 0 32 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v16) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x256 : Shape := ⟨2, ![1024, 256]⟩
abbrev S256x128 : Shape := ⟨2, ![256, 128]⟩
abbrev S1024x1 : Shape := ⟨2, ![1024, 1]⟩
abbrev S4x256x512 : Shape := ⟨3, ![4, 256, 512]⟩
abbrev S1024x512 : Shape := ⟨2, ![1024, 512]⟩
abbrev S768x512 : Shape := ⟨2, ![768, 512]⟩
abbrev S32 : Shape := ⟨1, ![32]⟩
abbrev S_ : Shape := ⟨0, ![]⟩
abbrev S1024x1024 : Shape := ⟨2, ![1024, 1024]⟩
abbrev S1x1024 : Shape := ⟨2, ![1, 1024]⟩
abbrev S1024 : Shape := ⟨1, ![1024]⟩
abbrev S1x24 : Shape := ⟨2, ![1, 24]⟩
abbrev S1024x24 : Shape := ⟨2, ![1024, 24]⟩
abbrev S24x256 : Shape := ⟨2, ![24, 256]⟩
abbrev S6x256 : Shape := ⟨2, ![6, 256]⟩
abbrev S1x256x512 : Shape := ⟨3, ![1, 256, 512]⟩
abbrev S256x512 : Shape := ⟨2, ![256, 512]⟩
abbrev S6x512 : Shape := ⟨2, ![6, 512]⟩
abbrev S24x512 : Shape := ⟨2, ![24, 512]⟩
abbrev S1 : Shape := ⟨1, ![1]⟩
abbrev S1x768 : Shape := ⟨2, ![1, 768]⟩
abbrev S1024x768 : Shape := ⟨2, ![1024, 768]⟩
abbrev S1024x384 : Shape := ⟨2, ![1024, 384]⟩
abbrev S384x512 : Shape := ⟨2, ![384, 512]⟩

abbrev nBuf : Space → Nat
  | .hbm => 5
  | .vmem => 6
  | .smem => 0
  | _ => 0

abbrev bufTy : (tb : Table) → Fin (tcTables nBuf tb) → BufTy
  | .hbm, ⟨0, _⟩ => ⟨S1024x256, .f32⟩
  | .hbm, ⟨1, _⟩ => ⟨S256x128, .f32⟩
  | .hbm, ⟨2, _⟩ => ⟨S1024x1, .i32⟩
  | .hbm, ⟨3, _⟩ => ⟨S4x256x512, .f32⟩
  | .hbm, ⟨4, _⟩ => ⟨S1024x512, .f32⟩
  | .local _ .vmem, ⟨0, _⟩ => ⟨S1024x256, .f32⟩
  | .local _ .vmem, ⟨1, _⟩ => ⟨S256x128, .f32⟩
  | .local _ .vmem, ⟨2, _⟩ => ⟨S1024x1, .i32⟩
  | .local _ .vmem, ⟨3, _⟩ => ⟨S4x256x512, .f32⟩
  | .local _ .vmem, ⟨4, _⟩ => ⟨S1024x512, .f32⟩
  | .local _ .vmem, ⟨5, _⟩ => ⟨S768x512, .bf16⟩
  | _, _ => ⟨S1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 69 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | _ => false

abbrev sig : RefSig :=
  (ofTc nBuf bufTy 1 69 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.addi v2 c1_i32_0
  let c32_i32_1 : BitVec 32 := 32#32
  let v5 : BitVec 32 := Scalar.remsi v4 c32_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v8 : BitVec 32 := Scalar.addi v2 c2_i32
  let c32_i32_4 : BitVec 32 := 32#32
  let v9 : BitVec 32 := Scalar.remsi v8 c32_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v12 : BitVec 32 := Scalar.addi v2 c3_i32
  let c32_i32_8 : BitVec 32 := 32#32
  let v13 : BitVec 32 := Scalar.remsi v12 c32_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v16 : BitVec 32 := Scalar.addi v2 c4_i32
  let c32_i32_12 : BitVec 32 := 32#32
  let v17 : BitVec 32 := Scalar.remsi v16 c32_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v20 : BitVec 32 := Scalar.addi v2 c5_i32
  let c32_i32_16 : BitVec 32 := 32#32
  let v21 : BitVec 32 := Scalar.remsi v20 c32_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v24 : BitVec 32 := Scalar.addi v2 c6_i32
  let c32_i32_20 : BitVec 32 := 32#32
  let v25 : BitVec 32 := Scalar.remsi v24 c32_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v28 : BitVec 32 := Scalar.addi v2 c7_i32
  let c32_i32_24 : BitVec 32 := 32#32
  let v29 : BitVec 32 := Scalar.remsi v28 c32_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_31 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v32 : BitVec 32 := Scalar.addi v2 c8_i32
  let c32_i32_28 : BitVec 32 := 32#32
  let v33 : BitVec 32 := Scalar.remsi v32 c32_i32_28
  let c1_i32_30 : BitVec 32 := 1#32
  let v34 : BitVec 32 := Scalar.muli v33 c1_i32_30
  let v35 : BitVec 32 := Scalar.addi c0_i32_31 v34
  v35.toNat
def k0_dev9 (d0 : Dev nD) : Nat :=
  let c0_i32_35 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v36 : BitVec 32 := Scalar.addi v2 c9_i32
  let c32_i32_32 : BitVec 32 := 32#32
  let v37 : BitVec 32 := Scalar.remsi v36 c32_i32_32
  let c1_i32_34 : BitVec 32 := 1#32
  let v38 : BitVec 32 := Scalar.muli v37 c1_i32_34
  let v39 : BitVec 32 := Scalar.addi c0_i32_35 v38
  v39.toNat
def k0_dev10 (d0 : Dev nD) : Nat :=
  let c0_i32_39 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v40 : BitVec 32 := Scalar.addi v2 c10_i32
  let c32_i32_36 : BitVec 32 := 32#32
  let v41 : BitVec 32 := Scalar.remsi v40 c32_i32_36
  let c1_i32_38 : BitVec 32 := 1#32
  let v42 : BitVec 32 := Scalar.muli v41 c1_i32_38
  let v43 : BitVec 32 := Scalar.addi c0_i32_39 v42
  v43.toNat
def k0_dev11 (d0 : Dev nD) : Nat :=
  let c0_i32_43 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v44 : BitVec 32 := Scalar.addi v2 c11_i32
  let c32_i32_40 : BitVec 32 := 32#32
  let v45 : BitVec 32 := Scalar.remsi v44 c32_i32_40
  let c1_i32_42 : BitVec 32 := 1#32
  let v46 : BitVec 32 := Scalar.muli v45 c1_i32_42
  let v47 : BitVec 32 := Scalar.addi c0_i32_43 v46
  v47.toNat
def k0_dev12 (d0 : Dev nD) : Nat :=
  let c0_i32_47 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v48 : BitVec 32 := Scalar.addi v2 c12_i32
  let c32_i32_44 : BitVec 32 := 32#32
  let v49 : BitVec 32 := Scalar.remsi v48 c32_i32_44
  let c1_i32_46 : BitVec 32 := 1#32
  let v50 : BitVec 32 := Scalar.muli v49 c1_i32_46
  let v51 : BitVec 32 := Scalar.addi c0_i32_47 v50
  v51.toNat
def k0_dev13 (d0 : Dev nD) : Nat :=
  let c0_i32_51 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v52 : BitVec 32 := Scalar.addi v2 c13_i32
  let c32_i32_48 : BitVec 32 := 32#32
  let v53 : BitVec 32 := Scalar.remsi v52 c32_i32_48
  let c1_i32_50 : BitVec 32 := 1#32
  let v54 : BitVec 32 := Scalar.muli v53 c1_i32_50
  let v55 : BitVec 32 := Scalar.addi c0_i32_51 v54
  v55.toNat
def k0_dev14 (d0 : Dev nD) : Nat :=
  let c0_i32_55 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v56 : BitVec 32 := Scalar.addi v2 c14_i32
  let c32_i32_52 : BitVec 32 := 32#32
  let v57 : BitVec 32 := Scalar.remsi v56 c32_i32_52
  let c1_i32_54 : BitVec 32 := 1#32
  let v58 : BitVec 32 := Scalar.muli v57 c1_i32_54
  let v59 : BitVec 32 := Scalar.addi c0_i32_55 v58
  v59.toNat
def k0_dev15 (d0 : Dev nD) : Nat :=
  let c0_i32_59 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v60 : BitVec 32 := Scalar.addi v2 c15_i32
  let c32_i32_56 : BitVec 32 := 32#32
  let v61 : BitVec 32 := Scalar.remsi v60 c32_i32_56
  let c1_i32_58 : BitVec 32 := 1#32
  let v62 : BitVec 32 := Scalar.muli v61 c1_i32_58
  let v63 : BitVec 32 := Scalar.addi c0_i32_59 v62
  v63.toNat
def k0_dev16 (d0 : Dev nD) : Nat :=
  let c0_i32_63 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v64 : BitVec 32 := Scalar.addi v2 c16_i32
  let c32_i32_60 : BitVec 32 := 32#32
  let v65 : BitVec 32 := Scalar.remsi v64 c32_i32_60
  let c1_i32_62 : BitVec 32 := 1#32
  let v66 : BitVec 32 := Scalar.muli v65 c1_i32_62
  let v67 : BitVec 32 := Scalar.addi c0_i32_63 v66
  v67.toNat
def k0_dev17 (d0 : Dev nD) : Nat :=
  let c0_i32_67 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v68 : BitVec 32 := Scalar.addi v2 c17_i32
  let c32_i32_64 : BitVec 32 := 32#32
  let v69 : BitVec 32 := Scalar.remsi v68 c32_i32_64
  let c1_i32_66 : BitVec 32 := 1#32
  let v70 : BitVec 32 := Scalar.muli v69 c1_i32_66
  let v71 : BitVec 32 := Scalar.addi c0_i32_67 v70
  v71.toNat
def k0_dev18 (d0 : Dev nD) : Nat :=
  let c0_i32_71 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v72 : BitVec 32 := Scalar.addi v2 c18_i32
  let c32_i32_68 : BitVec 32 := 32#32
  let v73 : BitVec 32 := Scalar.remsi v72 c32_i32_68
  let c1_i32_70 : BitVec 32 := 1#32
  let v74 : BitVec 32 := Scalar.muli v73 c1_i32_70
  let v75 : BitVec 32 := Scalar.addi c0_i32_71 v74
  v75.toNat
def k0_dev19 (d0 : Dev nD) : Nat :=
  let c0_i32_75 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v76 : BitVec 32 := Scalar.addi v2 c19_i32
  let c32_i32_72 : BitVec 32 := 32#32
  let v77 : BitVec 32 := Scalar.remsi v76 c32_i32_72
  let c1_i32_74 : BitVec 32 := 1#32
  let v78 : BitVec 32 := Scalar.muli v77 c1_i32_74
  let v79 : BitVec 32 := Scalar.addi c0_i32_75 v78
  v79.toNat
def k0_dev20 (d0 : Dev nD) : Nat :=
  let c0_i32_79 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v80 : BitVec 32 := Scalar.addi v2 c20_i32
  let c32_i32_76 : BitVec 32 := 32#32
  let v81 : BitVec 32 := Scalar.remsi v80 c32_i32_76
  let c1_i32_78 : BitVec 32 := 1#32
  let v82 : BitVec 32 := Scalar.muli v81 c1_i32_78
  let v83 : BitVec 32 := Scalar.addi c0_i32_79 v82
  v83.toNat
def k0_dev21 (d0 : Dev nD) : Nat :=
  let c0_i32_83 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v84 : BitVec 32 := Scalar.addi v2 c21_i32
  let c32_i32_80 : BitVec 32 := 32#32
  let v85 : BitVec 32 := Scalar.remsi v84 c32_i32_80
  let c1_i32_82 : BitVec 32 := 1#32
  let v86 : BitVec 32 := Scalar.muli v85 c1_i32_82
  let v87 : BitVec 32 := Scalar.addi c0_i32_83 v86
  v87.toNat
def k0_dev22 (d0 : Dev nD) : Nat :=
  let c0_i32_87 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v88 : BitVec 32 := Scalar.addi v2 c22_i32
  let c32_i32_84 : BitVec 32 := 32#32
  let v89 : BitVec 32 := Scalar.remsi v88 c32_i32_84
  let c1_i32_86 : BitVec 32 := 1#32
  let v90 : BitVec 32 := Scalar.muli v89 c1_i32_86
  let v91 : BitVec 32 := Scalar.addi c0_i32_87 v90
  v91.toNat
def k0_dev23 (d0 : Dev nD) : Nat :=
  let c0_i32_91 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v92 : BitVec 32 := Scalar.addi v2 c23_i32
  let c32_i32_88 : BitVec 32 := 32#32
  let v93 : BitVec 32 := Scalar.remsi v92 c32_i32_88
  let c1_i32_90 : BitVec 32 := 1#32
  let v94 : BitVec 32 := Scalar.muli v93 c1_i32_90
  let v95 : BitVec 32 := Scalar.addi c0_i32_91 v94
  v95.toNat
def k0_dev24 (d0 : Dev nD) : Nat :=
  let c0_i32_95 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v96 : BitVec 32 := Scalar.addi v2 c24_i32
  let c32_i32_92 : BitVec 32 := 32#32
  let v97 : BitVec 32 := Scalar.remsi v96 c32_i32_92
  let c1_i32_94 : BitVec 32 := 1#32
  let v98 : BitVec 32 := Scalar.muli v97 c1_i32_94
  let v99 : BitVec 32 := Scalar.addi c0_i32_95 v98
  v99.toNat
def k0_dev25 (d0 : Dev nD) : Nat :=
  let c0_i32_99 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v100 : BitVec 32 := Scalar.addi v2 c25_i32
  let c32_i32_96 : BitVec 32 := 32#32
  let v101 : BitVec 32 := Scalar.remsi v100 c32_i32_96
  let c1_i32_98 : BitVec 32 := 1#32
  let v102 : BitVec 32 := Scalar.muli v101 c1_i32_98
  let v103 : BitVec 32 := Scalar.addi c0_i32_99 v102
  v103.toNat
def k0_dev26 (d0 : Dev nD) : Nat :=
  let c0_i32_103 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v104 : BitVec 32 := Scalar.addi v2 c26_i32
  let c32_i32_100 : BitVec 32 := 32#32
  let v105 : BitVec 32 := Scalar.remsi v104 c32_i32_100
  let c1_i32_102 : BitVec 32 := 1#32
  let v106 : BitVec 32 := Scalar.muli v105 c1_i32_102
  let v107 : BitVec 32 := Scalar.addi c0_i32_103 v106
  v107.toNat
def k0_dev27 (d0 : Dev nD) : Nat :=
  let c0_i32_107 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v108 : BitVec 32 := Scalar.addi v2 c27_i32
  let c32_i32_104 : BitVec 32 := 32#32
  let v109 : BitVec 32 := Scalar.remsi v108 c32_i32_104
  let c1_i32_106 : BitVec 32 := 1#32
  let v110 : BitVec 32 := Scalar.muli v109 c1_i32_106
  let v111 : BitVec 32 := Scalar.addi c0_i32_107 v110
  v111.toNat
def k0_dev28 (d0 : Dev nD) : Nat :=
  let c0_i32_111 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v112 : BitVec 32 := Scalar.addi v2 c28_i32
  let c32_i32_108 : BitVec 32 := 32#32
  let v113 : BitVec 32 := Scalar.remsi v112 c32_i32_108
  let c1_i32_110 : BitVec 32 := 1#32
  let v114 : BitVec 32 := Scalar.muli v113 c1_i32_110
  let v115 : BitVec 32 := Scalar.addi c0_i32_111 v114
  v115.toNat
def k0_dev29 (d0 : Dev nD) : Nat :=
  let c0_i32_115 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v116 : BitVec 32 := Scalar.addi v2 c29_i32
  let c32_i32_112 : BitVec 32 := 32#32
  let v117 : BitVec 32 := Scalar.remsi v116 c32_i32_112
  let c1_i32_114 : BitVec 32 := 1#32
  let v118 : BitVec 32 := Scalar.muli v117 c1_i32_114
  let v119 : BitVec 32 := Scalar.addi c0_i32_115 v118
  v119.toNat
def k0_dev30 (d0 : Dev nD) : Nat :=
  let c0_i32_119 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v120 : BitVec 32 := Scalar.addi v2 c30_i32
  let c32_i32_116 : BitVec 32 := 32#32
  let v121 : BitVec 32 := Scalar.remsi v120 c32_i32_116
  let c1_i32_118 : BitVec 32 := 1#32
  let v122 : BitVec 32 := Scalar.muli v121 c1_i32_118
  let v123 : BitVec 32 := Scalar.addi c0_i32_119 v122
  v123.toNat
def k0_dev31 (d0 : Dev nD) : Nat :=
  let c0_i32_123 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v124 : BitVec 32 := Scalar.addi v2 c31_i32
  let c32_i32_120 : BitVec 32 := 32#32
  let v125 : BitVec 32 := Scalar.remsi v124 c32_i32_120
  let c1_i32_122 : BitVec 32 := 1#32
  let v126 : BitVec 32 := Scalar.muli v125 c1_i32_122
  let v127 : BitVec 32 := Scalar.addi c0_i32_123 v126
  v127.toNat
def k0_dev32 (d0 : Dev nD) : Nat :=
  let c0_i32_163 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_158 : BitVec 32 := 1#32
  let v220 : BitVec 32 := Scalar.addi v2 c1_i32_158
  let c32_i32_159 : BitVec 32 := 32#32
  let v221 : BitVec 32 := Scalar.remsi v220 c32_i32_159
  let c1_i32_162 : BitVec 32 := 1#32
  let v222 : BitVec 32 := Scalar.muli v221 c1_i32_162
  let v223 : BitVec 32 := Scalar.addi c0_i32_163 v222
  v223.toNat
def k0_dev33 (d0 : Dev nD) : Nat :=
  let c0_i32_173 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_168 : BitVec 32 := 2#32
  let v230 : BitVec 32 := Scalar.addi v2 c2_i32_168
  let c32_i32_169 : BitVec 32 := 32#32
  let v231 : BitVec 32 := Scalar.remsi v230 c32_i32_169
  let c1_i32_172 : BitVec 32 := 1#32
  let v232 : BitVec 32 := Scalar.muli v231 c1_i32_172
  let v233 : BitVec 32 := Scalar.addi c0_i32_173 v232
  v233.toNat
def k0_dev34 (d0 : Dev nD) : Nat :=
  let c0_i32_182 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_177 : BitVec 32 := 3#32
  let v240 : BitVec 32 := Scalar.addi v2 c3_i32_177
  let c32_i32_178 : BitVec 32 := 32#32
  let v241 : BitVec 32 := Scalar.remsi v240 c32_i32_178
  let c1_i32_181 : BitVec 32 := 1#32
  let v242 : BitVec 32 := Scalar.muli v241 c1_i32_181
  let v243 : BitVec 32 := Scalar.addi c0_i32_182 v242
  v243.toNat
def k0_dev35 (d0 : Dev nD) : Nat :=
  let c0_i32_191 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_186 : BitVec 32 := 4#32
  let v250 : BitVec 32 := Scalar.addi v2 c4_i32_186
  let c32_i32_187 : BitVec 32 := 32#32
  let v251 : BitVec 32 := Scalar.remsi v250 c32_i32_187
  let c1_i32_190 : BitVec 32 := 1#32
  let v252 : BitVec 32 := Scalar.muli v251 c1_i32_190
  let v253 : BitVec 32 := Scalar.addi c0_i32_191 v252
  v253.toNat
def k0_dev36 (d0 : Dev nD) : Nat :=
  let c0_i32_200 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_195 : BitVec 32 := 5#32
  let v260 : BitVec 32 := Scalar.addi v2 c5_i32_195
  let c32_i32_196 : BitVec 32 := 32#32
  let v261 : BitVec 32 := Scalar.remsi v260 c32_i32_196
  let c1_i32_199 : BitVec 32 := 1#32
  let v262 : BitVec 32 := Scalar.muli v261 c1_i32_199
  let v263 : BitVec 32 := Scalar.addi c0_i32_200 v262
  v263.toNat
def k0_dev37 (d0 : Dev nD) : Nat :=
  let c0_i32_209 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_204 : BitVec 32 := 6#32
  let v270 : BitVec 32 := Scalar.addi v2 c6_i32_204
  let c32_i32_205 : BitVec 32 := 32#32
  let v271 : BitVec 32 := Scalar.remsi v270 c32_i32_205
  let c1_i32_208 : BitVec 32 := 1#32
  let v272 : BitVec 32 := Scalar.muli v271 c1_i32_208
  let v273 : BitVec 32 := Scalar.addi c0_i32_209 v272
  v273.toNat
def k0_dev38 (d0 : Dev nD) : Nat :=
  let c0_i32_218 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_213 : BitVec 32 := 7#32
  let v280 : BitVec 32 := Scalar.addi v2 c7_i32_213
  let c32_i32_214 : BitVec 32 := 32#32
  let v281 : BitVec 32 := Scalar.remsi v280 c32_i32_214
  let c1_i32_217 : BitVec 32 := 1#32
  let v282 : BitVec 32 := Scalar.muli v281 c1_i32_217
  let v283 : BitVec 32 := Scalar.addi c0_i32_218 v282
  v283.toNat
def k0_dev39 (d0 : Dev nD) : Nat :=
  let c0_i32_227 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_222 : BitVec 32 := 8#32
  let v290 : BitVec 32 := Scalar.addi v2 c8_i32_222
  let c32_i32_223 : BitVec 32 := 32#32
  let v291 : BitVec 32 := Scalar.remsi v290 c32_i32_223
  let c1_i32_226 : BitVec 32 := 1#32
  let v292 : BitVec 32 := Scalar.muli v291 c1_i32_226
  let v293 : BitVec 32 := Scalar.addi c0_i32_227 v292
  v293.toNat
def k0_dev40 (d0 : Dev nD) : Nat :=
  let c0_i32_236 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_231 : BitVec 32 := 9#32
  let v300 : BitVec 32 := Scalar.addi v2 c9_i32_231
  let c32_i32_232 : BitVec 32 := 32#32
  let v301 : BitVec 32 := Scalar.remsi v300 c32_i32_232
  let c1_i32_235 : BitVec 32 := 1#32
  let v302 : BitVec 32 := Scalar.muli v301 c1_i32_235
  let v303 : BitVec 32 := Scalar.addi c0_i32_236 v302
  v303.toNat
def k0_dev41 (d0 : Dev nD) : Nat :=
  let c0_i32_245 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_240 : BitVec 32 := 10#32
  let v310 : BitVec 32 := Scalar.addi v2 c10_i32_240
  let c32_i32_241 : BitVec 32 := 32#32
  let v311 : BitVec 32 := Scalar.remsi v310 c32_i32_241
  let c1_i32_244 : BitVec 32 := 1#32
  let v312 : BitVec 32 := Scalar.muli v311 c1_i32_244
  let v313 : BitVec 32 := Scalar.addi c0_i32_245 v312
  v313.toNat
def k0_dev42 (d0 : Dev nD) : Nat :=
  let c0_i32_254 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_249 : BitVec 32 := 11#32
  let v320 : BitVec 32 := Scalar.addi v2 c11_i32_249
  let c32_i32_250 : BitVec 32 := 32#32
  let v321 : BitVec 32 := Scalar.remsi v320 c32_i32_250
  let c1_i32_253 : BitVec 32 := 1#32
  let v322 : BitVec 32 := Scalar.muli v321 c1_i32_253
  let v323 : BitVec 32 := Scalar.addi c0_i32_254 v322
  v323.toNat
def k0_dev43 (d0 : Dev nD) : Nat :=
  let c0_i32_263 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_258 : BitVec 32 := 12#32
  let v330 : BitVec 32 := Scalar.addi v2 c12_i32_258
  let c32_i32_259 : BitVec 32 := 32#32
  let v331 : BitVec 32 := Scalar.remsi v330 c32_i32_259
  let c1_i32_262 : BitVec 32 := 1#32
  let v332 : BitVec 32 := Scalar.muli v331 c1_i32_262
  let v333 : BitVec 32 := Scalar.addi c0_i32_263 v332
  v333.toNat
def k0_dev44 (d0 : Dev nD) : Nat :=
  let c0_i32_272 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_267 : BitVec 32 := 13#32
  let v340 : BitVec 32 := Scalar.addi v2 c13_i32_267
  let c32_i32_268 : BitVec 32 := 32#32
  let v341 : BitVec 32 := Scalar.remsi v340 c32_i32_268
  let c1_i32_271 : BitVec 32 := 1#32
  let v342 : BitVec 32 := Scalar.muli v341 c1_i32_271
  let v343 : BitVec 32 := Scalar.addi c0_i32_272 v342
  v343.toNat
def k0_dev45 (d0 : Dev nD) : Nat :=
  let c0_i32_281 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_276 : BitVec 32 := 14#32
  let v350 : BitVec 32 := Scalar.addi v2 c14_i32_276
  let c32_i32_277 : BitVec 32 := 32#32
  let v351 : BitVec 32 := Scalar.remsi v350 c32_i32_277
  let c1_i32_280 : BitVec 32 := 1#32
  let v352 : BitVec 32 := Scalar.muli v351 c1_i32_280
  let v353 : BitVec 32 := Scalar.addi c0_i32_281 v352
  v353.toNat
def k0_dev46 (d0 : Dev nD) : Nat :=
  let c0_i32_290 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_285 : BitVec 32 := 15#32
  let v360 : BitVec 32 := Scalar.addi v2 c15_i32_285
  let c32_i32_286 : BitVec 32 := 32#32
  let v361 : BitVec 32 := Scalar.remsi v360 c32_i32_286
  let c1_i32_289 : BitVec 32 := 1#32
  let v362 : BitVec 32 := Scalar.muli v361 c1_i32_289
  let v363 : BitVec 32 := Scalar.addi c0_i32_290 v362
  v363.toNat
def k0_dev47 (d0 : Dev nD) : Nat :=
  let c0_i32_299 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_294 : BitVec 32 := 16#32
  let v370 : BitVec 32 := Scalar.addi v2 c16_i32_294
  let c32_i32_295 : BitVec 32 := 32#32
  let v371 : BitVec 32 := Scalar.remsi v370 c32_i32_295
  let c1_i32_298 : BitVec 32 := 1#32
  let v372 : BitVec 32 := Scalar.muli v371 c1_i32_298
  let v373 : BitVec 32 := Scalar.addi c0_i32_299 v372
  v373.toNat
def k0_dev48 (d0 : Dev nD) : Nat :=
  let c0_i32_308 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_303 : BitVec 32 := 17#32
  let v380 : BitVec 32 := Scalar.addi v2 c17_i32_303
  let c32_i32_304 : BitVec 32 := 32#32
  let v381 : BitVec 32 := Scalar.remsi v380 c32_i32_304
  let c1_i32_307 : BitVec 32 := 1#32
  let v382 : BitVec 32 := Scalar.muli v381 c1_i32_307
  let v383 : BitVec 32 := Scalar.addi c0_i32_308 v382
  v383.toNat
def k0_dev49 (d0 : Dev nD) : Nat :=
  let c0_i32_317 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_312 : BitVec 32 := 18#32
  let v390 : BitVec 32 := Scalar.addi v2 c18_i32_312
  let c32_i32_313 : BitVec 32 := 32#32
  let v391 : BitVec 32 := Scalar.remsi v390 c32_i32_313
  let c1_i32_316 : BitVec 32 := 1#32
  let v392 : BitVec 32 := Scalar.muli v391 c1_i32_316
  let v393 : BitVec 32 := Scalar.addi c0_i32_317 v392
  v393.toNat
def k0_dev50 (d0 : Dev nD) : Nat :=
  let c0_i32_326 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_321 : BitVec 32 := 19#32
  let v400 : BitVec 32 := Scalar.addi v2 c19_i32_321
  let c32_i32_322 : BitVec 32 := 32#32
  let v401 : BitVec 32 := Scalar.remsi v400 c32_i32_322
  let c1_i32_325 : BitVec 32 := 1#32
  let v402 : BitVec 32 := Scalar.muli v401 c1_i32_325
  let v403 : BitVec 32 := Scalar.addi c0_i32_326 v402
  v403.toNat
def k0_dev51 (d0 : Dev nD) : Nat :=
  let c0_i32_335 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_330 : BitVec 32 := 20#32
  let v410 : BitVec 32 := Scalar.addi v2 c20_i32_330
  let c32_i32_331 : BitVec 32 := 32#32
  let v411 : BitVec 32 := Scalar.remsi v410 c32_i32_331
  let c1_i32_334 : BitVec 32 := 1#32
  let v412 : BitVec 32 := Scalar.muli v411 c1_i32_334
  let v413 : BitVec 32 := Scalar.addi c0_i32_335 v412
  v413.toNat
def k0_dev52 (d0 : Dev nD) : Nat :=
  let c0_i32_344 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_339 : BitVec 32 := 21#32
  let v420 : BitVec 32 := Scalar.addi v2 c21_i32_339
  let c32_i32_340 : BitVec 32 := 32#32
  let v421 : BitVec 32 := Scalar.remsi v420 c32_i32_340
  let c1_i32_343 : BitVec 32 := 1#32
  let v422 : BitVec 32 := Scalar.muli v421 c1_i32_343
  let v423 : BitVec 32 := Scalar.addi c0_i32_344 v422
  v423.toNat
def k0_dev53 (d0 : Dev nD) : Nat :=
  let c0_i32_353 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_348 : BitVec 32 := 22#32
  let v430 : BitVec 32 := Scalar.addi v2 c22_i32_348
  let c32_i32_349 : BitVec 32 := 32#32
  let v431 : BitVec 32 := Scalar.remsi v430 c32_i32_349
  let c1_i32_352 : BitVec 32 := 1#32
  let v432 : BitVec 32 := Scalar.muli v431 c1_i32_352
  let v433 : BitVec 32 := Scalar.addi c0_i32_353 v432
  v433.toNat
def k0_dev54 (d0 : Dev nD) : Nat :=
  let c0_i32_362 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_357 : BitVec 32 := 23#32
  let v440 : BitVec 32 := Scalar.addi v2 c23_i32_357
  let c32_i32_358 : BitVec 32 := 32#32
  let v441 : BitVec 32 := Scalar.remsi v440 c32_i32_358
  let c1_i32_361 : BitVec 32 := 1#32
  let v442 : BitVec 32 := Scalar.muli v441 c1_i32_361
  let v443 : BitVec 32 := Scalar.addi c0_i32_362 v442
  v443.toNat
def k0_dev55 (d0 : Dev nD) : Nat :=
  let c0_i32_371 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_366 : BitVec 32 := 24#32
  let v450 : BitVec 32 := Scalar.addi v2 c24_i32_366
  let c32_i32_367 : BitVec 32 := 32#32
  let v451 : BitVec 32 := Scalar.remsi v450 c32_i32_367
  let c1_i32_370 : BitVec 32 := 1#32
  let v452 : BitVec 32 := Scalar.muli v451 c1_i32_370
  let v453 : BitVec 32 := Scalar.addi c0_i32_371 v452
  v453.toNat
def k0_dev56 (d0 : Dev nD) : Nat :=
  let c0_i32_380 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_375 : BitVec 32 := 25#32
  let v460 : BitVec 32 := Scalar.addi v2 c25_i32_375
  let c32_i32_376 : BitVec 32 := 32#32
  let v461 : BitVec 32 := Scalar.remsi v460 c32_i32_376
  let c1_i32_379 : BitVec 32 := 1#32
  let v462 : BitVec 32 := Scalar.muli v461 c1_i32_379
  let v463 : BitVec 32 := Scalar.addi c0_i32_380 v462
  v463.toNat
def k0_dev57 (d0 : Dev nD) : Nat :=
  let c0_i32_389 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_384 : BitVec 32 := 26#32
  let v470 : BitVec 32 := Scalar.addi v2 c26_i32_384
  let c32_i32_385 : BitVec 32 := 32#32
  let v471 : BitVec 32 := Scalar.remsi v470 c32_i32_385
  let c1_i32_388 : BitVec 32 := 1#32
  let v472 : BitVec 32 := Scalar.muli v471 c1_i32_388
  let v473 : BitVec 32 := Scalar.addi c0_i32_389 v472
  v473.toNat
def k0_dev58 (d0 : Dev nD) : Nat :=
  let c0_i32_398 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_393 : BitVec 32 := 27#32
  let v480 : BitVec 32 := Scalar.addi v2 c27_i32_393
  let c32_i32_394 : BitVec 32 := 32#32
  let v481 : BitVec 32 := Scalar.remsi v480 c32_i32_394
  let c1_i32_397 : BitVec 32 := 1#32
  let v482 : BitVec 32 := Scalar.muli v481 c1_i32_397
  let v483 : BitVec 32 := Scalar.addi c0_i32_398 v482
  v483.toNat
def k0_dev59 (d0 : Dev nD) : Nat :=
  let c0_i32_407 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_402 : BitVec 32 := 28#32
  let v490 : BitVec 32 := Scalar.addi v2 c28_i32_402
  let c32_i32_403 : BitVec 32 := 32#32
  let v491 : BitVec 32 := Scalar.remsi v490 c32_i32_403
  let c1_i32_406 : BitVec 32 := 1#32
  let v492 : BitVec 32 := Scalar.muli v491 c1_i32_406
  let v493 : BitVec 32 := Scalar.addi c0_i32_407 v492
  v493.toNat
def k0_dev60 (d0 : Dev nD) : Nat :=
  let c0_i32_416 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_411 : BitVec 32 := 29#32
  let v500 : BitVec 32 := Scalar.addi v2 c29_i32_411
  let c32_i32_412 : BitVec 32 := 32#32
  let v501 : BitVec 32 := Scalar.remsi v500 c32_i32_412
  let c1_i32_415 : BitVec 32 := 1#32
  let v502 : BitVec 32 := Scalar.muli v501 c1_i32_415
  let v503 : BitVec 32 := Scalar.addi c0_i32_416 v502
  v503.toNat
def k0_dev61 (d0 : Dev nD) : Nat :=
  let c0_i32_425 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_420 : BitVec 32 := 30#32
  let v510 : BitVec 32 := Scalar.addi v2 c30_i32_420
  let c32_i32_421 : BitVec 32 := 32#32
  let v511 : BitVec 32 := Scalar.remsi v510 c32_i32_421
  let c1_i32_424 : BitVec 32 := 1#32
  let v512 : BitVec 32 := Scalar.muli v511 c1_i32_424
  let v513 : BitVec 32 := Scalar.addi c0_i32_425 v512
  v513.toNat
def k0_dev62 (d0 : Dev nD) : Nat :=
  let c0_i32_434 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_429 : BitVec 32 := 31#32
  let v520 : BitVec 32 := Scalar.addi v2 c31_i32_429
  let c32_i32_430 : BitVec 32 := 32#32
  let v521 : BitVec 32 := Scalar.remsi v520 c32_i32_430
  let c1_i32_433 : BitVec 32 := 1#32
  let v522 : BitVec 32 := Scalar.muli v521 c1_i32_433
  let v523 : BitVec 32 := Scalar.addi c0_i32_434 v522
  v523.toNat
abbrev stage0_0 : Fin 1 → Memref sig .tc .vmem S1024x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S1024x256 : Shape := ⟨2, ![1024, 256]⟩
abbrev S256x128 : Shape := ⟨2, ![256, 128]⟩
abbrev S1024x1 : Shape := ⟨2, ![1024, 1]⟩
abbrev S128x256x512 : Shape := ⟨3, ![128, 256, 512]⟩
abbrev S128 : Shape := ⟨1, ![128]⟩
abbrev S1x128 : Shape := ⟨2, ![1, 128]⟩
abbrev S1024x128 : Shape := ⟨2, ![1024, 128]⟩
abbrev S_ : Shape := ⟨0, ![]⟩
abbrev S1024x128x512 : Shape := ⟨3, ![1024, 128, 512]⟩
abbrev S1024x128x1 : Shape := ⟨3, ![1024, 128, 1]⟩
abbrev S1024x512 : Shape := ⟨2, ![1024, 512]⟩

abbrev nBuf : Space → Nat
  | .hbm => 30
  | .vmem => 0
  | .smem => 0
  | _ => 0

abbrev bufTy : (tb : Table) → Fin (tcTables nBuf tb) → BufTy
  | .hbm, ⟨0, _⟩ => ⟨S1024x256, .f32⟩
  | .hbm, ⟨1, _⟩ => ⟨S256x128, .f32⟩
  | .hbm, ⟨2, _⟩ => ⟨S1024x1, .i32⟩
  | .hbm, ⟨3, _⟩ => ⟨S128x256x512, .f32⟩
  | .hbm, ⟨4, _⟩ => ⟨S128, .i32⟩
  | .hbm, ⟨5, _⟩ => ⟨S1x128, .i32⟩
  | .hbm, ⟨6, _⟩ => ⟨S1024x128, .i32⟩
  | .hbm, ⟨7, _⟩ => ⟨S1024x128, .i32⟩
  | .hbm, ⟨8, _⟩ => ⟨S1024x128, .i1⟩
  | .hbm, ⟨9, _⟩ => ⟨S1024x128, .i32⟩
  | .hbm, ⟨10, _⟩ => ⟨S_, .i32⟩
  | .hbm, ⟨11, _⟩ => ⟨S_, .i32⟩
  | .hbm, ⟨12, _⟩ => ⟨S1024x128, .i32⟩
  | .hbm, ⟨13, _⟩ => ⟨S1024x128, .i32⟩
  | .hbm, ⟨14, _⟩ => ⟨S_, .i32⟩
  | .hbm, ⟨15, _⟩ => ⟨S1024x128, .i32⟩
  | .hbm, ⟨16, _⟩ => ⟨S1024x128, .i1⟩
  | .hbm, ⟨17, _⟩ => ⟨S_, .i32⟩
  | .hbm, ⟨18, _⟩ => ⟨S1024x128, .i32⟩
  | .hbm, ⟨19, _⟩ => ⟨S1024x128, .i1⟩
  | .hbm, ⟨20, _⟩ => ⟨S1024x128, .i1⟩
  | .hbm, ⟨21, _⟩ => ⟨S1024x128x512, .f32⟩
  | .hbm, ⟨22, _⟩ => ⟨S1024x128x1, .i1⟩
  | .hbm, ⟨23, _⟩ => ⟨S_, .f32⟩
  | .hbm, ⟨24, _⟩ => ⟨S_, .f32⟩
  | .hbm, ⟨25, _⟩ => ⟨S1024x128x512, .i1⟩
  | .hbm, ⟨26, _⟩ => ⟨S1024x128x512, .f32⟩
  | .hbm, ⟨27, _⟩ => ⟨S1024x128x512, .f32⟩
  | .hbm, ⟨28, _⟩ => ⟨S_, .f32⟩
  | .hbm, ⟨29, _⟩ => ⟨S1024x512, .f32⟩
  | _, _ => ⟨S1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_call0_call0_c : Ref sig .tc := ⟨.hbm, 10, rfl⟩
abbrev main_call0_call0_v0 : Ref sig .tc := ⟨.hbm, 11, rfl⟩
abbrev main_v6 : Ref sig .tc := ⟨.hbm, 12, rfl⟩
abbrev main_v7 : Ref sig .tc := ⟨.hbm, 13, rfl⟩
abbrev main_c : Ref sig .tc := ⟨.hbm, 14, rfl⟩
abbrev main_v8 : Ref sig .tc := ⟨.hbm, 15, rfl⟩
abbrev main_v9 : Ref sig .tc := ⟨.hbm, 16, rfl⟩
abbrev main_c_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst : Ref sig .tc := ⟨.hbm, 23, rfl⟩
abbrev main_call1_v0 : Ref sig .tc := ⟨.hbm, 24, rfl⟩
abbrev main_call1_v1 : Ref sig .tc := ⟨.hbm, 25, rfl⟩
abbrev main_call1_v2 : Ref sig .tc := ⟨.hbm, 26, rfl⟩
abbrev main_v15 : Ref sig .tc := ⟨.hbm, 27, rfl⟩
abbrev main_cst_1 : Ref sig .tc := ⟨.hbm, 28, rfl⟩
abbrev main_v16 : Ref sig .tc := ⟨.hbm, 29, rfl⟩

abbrev nD : Nat := 1
abbrev τ : Topo := Topo.v7x

variable {F : FTy → Type} [FloatOps F]
-- ==== Proof.Protocol.lean ====
/-
# The exchange of the kernel, as a protocol

Thirty-two devices. Device `c` tells every other device that it is ready (one unit on that device's barrier semaphore),
waits for the thirty-one units of the others, sends its block of 24 rows to every other device — to the device `d`
places after it into the rows `24 d .. 24 d + 23` —, and waits for the thirty-one blocks sent to it.

This file fixes the semaphore cells, who pays what into them and what is handed over with each payment, and the
contents of the gather buffer.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.ShareLeaves
public import Idealize.ShloMosaic.Lib.Ring
public import Idealize.ShloMosaic.Lib.Tactic

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The exchange's rounds; a duty is named by a device number. -/
abbrev UX : Type := URounds (GSem nD τ sig) (Dev nD)
/-- The pipeline's rounds and the exchange's. -/
abbrev UU : Type := UR sig nD τ × UX

local notation "𝕄" => MT nD τ sig Unit (Elt F) ℕ UU ℕ

abbrev EP : Emb (UR sig nD τ) (MT nD τ sig Unit (Elt F) ℕ UU ℕ) := embL
abbrev EX : Emb UX (MT nD τ sig Unit (Elt F) ℕ UU ℕ) := embR

variable (m : (ℓ : Loc nD τ sig) → Buf (Elt F) ℓ) (ρ : Dev nD → PrngReg)

/-- The memory at launch: any contents, every counter at zero, any generator registers. -/
def s₀ : MemSt nD τ sig (Elt F) := ⟨m, fun _ => 0, ρ⟩

/-! ## Ranges of shifts -/

theorem zlt32 : 0 < 32 := by decide
theorem lt32 (d : Dev nD) : d.val < 32 := d.isLt

/-- The shifts from `n` on. -/
def Ge (n : ℕ) : Finset (Dev nD) := Finset.univ.filter fun d => n ≤ d.val
/-- The shifts from 1 up to, without, `n`. -/
def Bt (n : ℕ) : Finset (Dev nD) := Finset.univ.filter fun d => 1 ≤ d.val ∧ d.val < n

theorem mem_Ge {n : ℕ} {d : Dev nD} : d ∈ Ge n ↔ n ≤ d.val := by simp [Ge]
theorem mem_Bt {n : ℕ} {d : Dev nD} : d ∈ Bt n ↔ 1 ≤ d.val ∧ d.val < n := by simp [Bt]

theorem Ge_insert {n : ℕ} (hn : n < 32) : Ge n = insert (⟨n, hn⟩ : Dev nD) (Ge (n + 1)) := by
  ext d; rw [Finset.mem_insert, mem_Ge, mem_Ge, Fin.ext_iff]; show n ≤ d.val ↔ d.val = n ∨ n + 1 ≤ d.val; omega
theorem not_mem_Ge {n : ℕ} (hn : n < 32) : (⟨n, hn⟩ : Dev nD) ∉ Ge (n + 1) := by
  rw [mem_Ge]; show ¬ n + 1 ≤ n; omega
theorem Bt_insert {n : ℕ} (hn : n < 32) (h0 : 1 ≤ n) : Bt (n + 1) = insert (⟨n, hn⟩ : Dev nD) (Bt n) := by
  ext d; rw [Finset.mem_insert, mem_Bt, mem_Bt, Fin.ext_iff]
  show 1 ≤ d.val ∧ d.val < n + 1 ↔ d.val = n ∨ 1 ≤ d.val ∧ d.val < n; omega
theorem not_mem_Bt {n : ℕ} (hn : n < 32) : (⟨n, hn⟩ : Dev nD) ∉ Bt n := by
  rw [mem_Bt]; show ¬ (1 ≤ n ∧ n < n); omega
theorem Ge_last : Ge 32 = ∅ := by
  ext d; rw [mem_Ge]; have := lt32 d; simp only [Finset.notMem_empty, iff_false]; omega
theorem Bt_first : Bt 1 = ∅ := by
  ext d; rw [mem_Bt]; simp only [Finset.notMem_empty, iff_false]; omega
theorem Bt_last : Bt 32 = Ge 1 := by
  ext d; rw [mem_Bt, mem_Ge]; have := lt32 d; omega
theorem Ge_one : Ge 1 = Finset.univ.erase (0 : Dev nD) := by
  ext d; rw [mem_Ge, Finset.mem_erase, Ne, Fin.ext_iff]; simp only [Finset.mem_univ, and_true]; show 1 ≤ d.val ↔ ¬ d.val = 0; omega

omit [FloatOps F] in
theorem sep_Ge {n : ℕ} (hn : n < 32) (Φ : Dev nD → sProp 𝕄) : bigSep (Ge n) Φ = iprop(Φ ⟨n, hn⟩ ∗ bigSep (Ge (n + 1)) Φ) := by
  rw [Ge_insert hn]; exact bigSep_insert (not_mem_Ge hn)
omit [FloatOps F] in
theorem sep_Bt {n : ℕ} (hn : n < 32) (h0 : 1 ≤ n) (Φ : Dev nD → sProp 𝕄) : bigSep (Bt (n + 1)) Φ = iprop(Φ ⟨n, hn⟩ ∗ bigSep (Bt n) Φ) := by
  rw [Bt_insert hn h0]; exact bigSep_insert (not_mem_Bt hn)
/-- The opposite shift. -/
def negShift : Dev nD ≃ Dev nD := ⟨fun d => -d, fun d => -d, fun d => by revert d; decide, fun d => by revert d; decide⟩
theorem sum_Ge {A : Type} [AddCommMonoid A] {n : ℕ} (hn : n < 32) (f : Dev nD → A) :
    ∑ d ∈ Ge n, f d = (∑ d ∈ Ge (n + 1), f d) + f ⟨n, hn⟩ := by
  rw [Ge_insert hn, Finset.sum_insert (not_mem_Ge hn), add_comm]

/-! ## The gather buffer and its slots -/

abbrev gM : Memref sig .tc .vmem S768x512 .bf16 := Memref.whole cc0_scratch0

theorem slot_inb (n : ℕ) (h : n < 32) : ∀ a, (![24 * n, 0] : Fin 2 → Nat) a + S24x512.size a ≤ S768x512.size a := by
  intro a; fin_cases a
  · show 24 * n + 24 ≤ 768; omega
  · show 0 + 512 ≤ 512; omega

/-- Slot `n`: the rows `24 n .. 24 n + 23`. -/
abbrev slotR (n : ℕ) (h : n < 32) : Rect S768x512 := Rect.unit (s := S768x512) ![24 * n, 0] S24x512.size (slot_inb n h)
abbrev slotM (n : ℕ) (h : n < 32) : Memref sig .tc .vmem S24x512 .bf16 := gM.slice (slotR n h) (fun _ => rfl)
/-- The elements of slot `d`. -/
def slotSet (d : Dev nD) : Finset S768x512.Idx := (slotR d.val d.isLt).set

theorem slotM_set (n : ℕ) (h : n < 32) : (slotM n h).view.set = slotSet ⟨n, h⟩ := View.set_slice_whole _ _

/-- The credit one slot's transfer pays. -/
abbrev N : ℕ := (slotM 0 zlt32).view.dmaCredit
theorem N_pos : 0 < N := View.dmaCredit_pos _ (by decide)
theorem slotM_credit (n : ℕ) (h : n < 32) : (slotM n h).view.dmaCredit = N := rfl

theorem mem_slotSet (d : Dev nD) (i : S768x512.Idx) : i ∈ slotSet d ↔ 24 * d.val ≤ (i 0).val ∧ (i 0).val < 24 * d.val + 24 := by
  unfold slotSet; rw [Rect.mem_set_unit]
  constructor
  · intro h; exact h 0
  · intro h a; fin_cases a
    · exact h
    · exact ⟨Nat.zero_le _, by have := (i 1).isLt; show (i 1).val < 0 + 512; exact lt_of_lt_of_eq this (by decide)⟩

theorem slot_disjoint (d d' : Dev nD) (h : d ≠ d') : Disjoint (slotSet d) (slotSet d') := by
  rw [Finset.disjoint_left]; intro i hi hi'
  rw [mem_slotSet] at hi hi'
  exact h (Fin.ext (by omega))

theorem slot_cover : Finset.univ.biUnion slotSet = (Finset.univ : Finset S768x512.Idx) := by
  ext i
  have hi : (i 0).val < 768 := (i 0).isLt
  simp only [Finset.mem_biUnion, Finset.mem_univ, true_and, iff_true]
  exact ⟨⟨(i 0).val / 24, by show _ < 32; omega⟩, (mem_slotSet _ _).mpr ⟨by show 24 * ((i 0).val / 24) ≤ _; omega, by show _ < 24 * ((i 0).val / 24) + 24; omega⟩⟩

/-! ## Contents -/

def xstg (c : Dev nD) : (cc0_stg0_0 : Ref sig .tc).ty.Contents (Elt F) :=
  (win0_0.blk (0 : Fin 1)).view.read (Elt F) ((s₀ m ρ).mem ((c : Thread nD τ).loc main_arg0))
def rstg (c : Dev nD) : (cc0_stg1_0 : Ref sig .tc).ty.Contents (Elt F) :=
  (win0_1.blk (0 : Fin 1)).view.read (Elt F) ((s₀ m ρ).mem ((c : Thread nD τ).loc main_arg1))
def istg (c : Dev nD) : (cc0_stg2_0 : Ref sig .tc).ty.Contents (Elt F) :=
  (win0_2.blk (0 : Fin 1)).view.read (Elt F) ((s₀ m ρ).mem ((c : Thread nD τ).loc main_arg2))
def wstg (c : Dev nD) : (cc0_stg3_0 : Ref sig .tc).ty.Contents (Elt F) :=
  (win0_3.blk (0 : Fin 1)).view.read (Elt F) ((s₀ m ρ).mem ((c : Thread nD τ).loc main_arg3))

/-- The device's own number as the program computes it. -/
abbrev myPos (c : Dev nD) : BitVec 32 := Scalar.remsi (Scalar.divsi (Dev.word c) 1#32) 32#32

/-- Expert `j` of the four in a device's block of the weights. -/
abbrev wLoad (f : (cc0_stg3_0 : Ref sig .tc).ty.Contents (Elt F)) (j : ℕ) (h : ∀ a, (![j, 0, 0] : Fin 3 → Nat) a + S1x256x512.size a ≤ S4x256x512.size a) :
    Vec F S1x256x512 .f32 :=
  (Memref.whole cc0_stg3_0 : Memref sig .tc .vmem S4x256x512 .f32).view.readAt (Elt F)
    (Rect.unit (s := S4x256x512) ![j, 0, 0] S1x256x512.size h).toLoadRect f

/-- The block of 24 rows a device computes from its inputs and sends. -/
def blockOf (c : Dev nD) (x : Vec F S1024x256 .f32) (ix : Vec F S1024x1 .i32) (w : (cc0_stg3_0 : Ref sig .tc).ty.Contents (Elt F)) : Vec F S24x512 .bf16 :=
  k0_pay9 (k0_pay6 (k0_pay1 ix) (k0_pay2 ix) (iota .tc S1x24 32 [1] iota_S1x24_d1_w32) (Scalar.muli (myPos c) 4#32) k0_pay3 k0_pay4 k0_pay5 x)
    (k0_pay7 (k0_pay1 ix) (k0_pay2 ix) (iota .tc S1x24 32 [1] iota_S1x24_d1_w32) (Scalar.muli (myPos c) 4#32) k0_pay3 k0_pay4 k0_pay5 x (wLoad w 0 inb_S4x256x512_S1x256x512_0_0_0))
    (k0_pay8 (k0_pay1 ix) (k0_pay2 ix) (iota .tc S1x24 32 [1] iota_S1x24_d1_w32) (Scalar.muli (myPos c) 4#32) k0_pay3 k0_pay4 k0_pay5 x)
    (wLoad w 1 inb_S4x256x512_S1x256x512_1_0_0) (wLoad w 2 inb_S4x256x512_S1x256x512_2_0_0) (wLoad w 3 inb_S4x256x512_S1x256x512_3_0_0)

/-- Device `c`'s block. -/
def yc (c : Dev nD) : Vec F S24x512 .bf16 := blockOf c (xstg m ρ c) (istg m ρ c) (wstg m ρ c)

/-- The gather buffer of device `c` when every block has arrived: slot `d` holds the block of the device `d` places before it. -/
def gath (c : Dev nD) : (cc0_scratch0 : Ref sig .tc).ty.Contents (Elt F) := fun (i : S768x512.Idx) =>
  yc m ρ (c - (⟨(i 0).val / 24, Nat.div_lt_of_lt_mul (show (i 0).val < 24 * 32 from (i 0).isLt)⟩ : Dev nD))
    (fun a => match a with
      | ⟨0, _⟩ => ⟨(i 0).val % 24, Nat.mod_lt _ (by decide)⟩
      | ⟨1, _⟩ => ⟨(i 1).val, (i 1).isLt⟩)

theorem gath_emb (c : Dev nD) (n : ℕ) (h : n < 32) (j : S24x512.Idx) : gath m ρ c ((slotR n h).emb j) = yc m ρ (c - ⟨n, h⟩) j := by
  have hj : (j 0).val < 24 := (j 0).isLt
  have h0 : (((slotR n h).emb j) 0).val = 24 * n + (j 0).val := by rw [Rect.emb_apply]; show 24 * n + 1 * (j 0).val = _; omega
  have h1 : (((slotR n h).emb j) 1).val = (j 1).val := by rw [Rect.emb_apply]; show 0 + 1 * (j 1).val = _; omega
  unfold gath
  congr 1
  · congr 1; refine Fin.ext ?_; show (((slotR n h).emb j) 0).val / 24 = n; rw [h0]; omega
  · funext a; fin_cases a
    · refine Fin.ext ?_; show (((slotR n h).emb j) 0).val % 24 = _; rw [h0]; show _ = (j 0).val; omega
    · exact Fin.ext h1

/-- Writing device `c - d`'s block through slot `d` gives, on that slot, the final contents. -/
theorem landed_eq (c : Dev nD) (n : ℕ) (h : n < 32) (f : (cc0_scratch0 : Ref sig .tc).ty.Contents (Elt F)) (w : Vec F S24x512 .bf16)
    (hw : w = yc m ρ (c - ⟨n, h⟩)) (i : S768x512.Idx) (hi : i ∈ slotSet ⟨n, h⟩) :
    (slotM n h).view.write (Elt F) f w Finset.univ i = gath m ρ c i := by
  obtain ⟨j, rfl⟩ : ∃ j, (slotR n h).emb j = i := by
    have hi' : i ∈ (slotR n h).set := hi
    rw [← Rect.map_emb_univ] at hi'; simpa using hi'
  subst hw
  exact (View.write_emb_of_mem (v := (slotM n h).view) f _ (Finset.mem_univ j)).trans (gath_emb m ρ c n h j).symm

/-- What slot 0 of device `c` reads: its own block. -/
theorem read_own (c : Dev nD) : (slotM 0 zlt32).view.read (Elt F) (gath m ρ c) = yc m ρ c := by
  funext j
  exact (gath_emb m ρ c 0 (by decide) j).trans (by congr 1; revert c; decide)

/-- Some elements of a device's gather buffer, held at a share and at given contents. -/
def gPts (c : Dev nD) (S : Finset S768x512.Idx) (q : PosShare TreeShare) (f : (cc0_scratch0 : Ref sig .tc).ty.Contents (Elt F)) : sProp 𝕄 :=
  (((c : Dev nD) : Thread nD τ).loc cc0_scratch0) ↦[S]{q} f

omit [FloatOps F] in
instance gPts_storable (c : Dev nD) (S q f) : BI.Storable (upEmb : UEmb _ 𝕄) (gPts (F := F) c S q f) := by unfold gPts; infer_instance

/-- The share of slot 0 that the transfer to the device `d` places on reads with; the share numbered 0 stays. -/
abbrev leafOf (d : Dev nD) : PosShare TreeShare := ShareLeaves.leaf 5 fullShare d

/-! ## The cells -/

abbrev barS : Sem sig := (SemArray.scalar (sig.barrier 0 rfl) : Sems sig S_).sem
abbrev sendSem (d : Dev nD) : DmaSem sig := ⟨5 + d.val, by have := lt32 d; show _ < 69; omega⟩
abbrev recvSem (d : Dev nD) : DmaSem sig := ⟨37 + d.val, by have := lt32 d; show _ < 69; omega⟩

abbrev barCell (c : Dev nD) : GSem nD τ sig := ((c : Thread nD τ), .reg barS)
abbrev sendCell (c d : Dev nD) : GSem nD τ sig := ((c : Thread nD τ), .dma (sendSem d))
abbrev recvCell (c d : Dev nD) : GSem nD τ sig := ((c : Thread nD τ), .dma (recvSem d))

/-- The sixty-four scratch semaphores of a device: those numbered below 32 the sends', the others the landings'. -/
abbrev osem (k : Fin 64) : SemLoc sig := .dma ⟨5 + k.val, by have := k.isLt; show _ < 69; omega⟩
/-- The barrier's semaphore and the sixty-four. -/
abbrev csem : Option (Fin 64) → SemLoc sig := fun | none => .reg barS | some k => osem k
abbrev kcell (ck : Dev nD × Option (Fin 64)) : GSem nD τ sig := ((ck.1 : Thread nD τ), csem ck.2)

abbrev kSend (d : Dev nD) : Option (Fin 64) := some ⟨d.val, by have := lt32 d; omega⟩
abbrev kRecv (d : Dev nD) : Option (Fin 64) := some ⟨32 + d.val, by have := lt32 d; omega⟩

theorem kcell_send (c d : Dev nD) : kcell (c, kSend d) = sendCell c d := rfl
theorem kcell_recv (c d : Dev nD) : kcell (c, kRecv d) = recvCell c d := by
  have : (osem ⟨32 + d.val, by have := lt32 d; omega⟩ : SemLoc sig) = .dma (recvSem d) := by
    revert d; decide
  show (_, osem _) = (_, _); rw [this]

/-- The shift a transfer's semaphore belongs to. -/
def shiftOf (q : DmaSem sig) : Dev nD := ⟨(q.val - 5) % 32, Nat.mod_lt _ (by decide)⟩
theorem shiftOf_send (d : Dev nD) : shiftOf (sendSem d) = d := Fin.ext (by have := lt32 d; show (5 + d.val - 5) % 32 = d.val; omega)
theorem shiftOf_recv (d : Dev nD) : shiftOf (recvSem d) = d := Fin.ext (by have := lt32 d; show (37 + d.val - 5) % 32 = d.val; omega)

/-- With its unit on `p`'s barrier the device `d` places before `p` hands over the slot that `p`'s block goes to. -/
def barPay (p d : Dev nD) : sProp 𝕄 := iprop(∃ f, gPts (p - d) (slotSet (-d)) fullShare f)
/-- A completed transfer gives back its share of slot 0. -/
def sendPay (c d : Dev nD) : sProp 𝕄 := gPts c (slotSet 0) (leafOf d) (gath m ρ c)
/-- A landing gives slot `d` with its final contents. -/
def recvPay (p d : Dev nD) : sProp 𝕄 := gPts p (slotSet d) fullShare (gath m ρ p)

/-- One round. The barrier's cell has a duty of one unit for every shift but 0; each transfer's cell of a shift other
    than 0 has one duty, of the slot's credit. -/
def exRd : Rounds.Schedule (GSem nD τ sig) (Dev nD) 𝕄 where
  duties g r := if r = 0 ∧ g.1.2 = .tc then (match g.2 with
    | .reg _ => Ge 1
    | .dma q => if 5 ≤ q.val ∧ shiftOf q ≠ 0 then {0} else ∅) else ∅
  unitless _ := False
  amount g _ _ := match g.2 with
    | .reg _ => 1
    | .dma _ => N
  payload g _ d := match g.2 with
    | .reg _ => barPay g.1.1 d
    | .dma q => if q.val < 37 then sendPay m ρ g.1.1 (shiftOf q) else recvPay m ρ g.1.1 (shiftOf q)
  amount_pos g _ _ _ := by
    rcases g with ⟨t, (s | q)⟩
    · exact Nat.one_pos
    · exact N_pos

instance exRd_payload_storable (g : GSem nD τ sig) (r : ℕ) (d : Dev nD) :
    BI.Storable (upEmb : UEmb _ 𝕄) ((exRd (F := F) m ρ).payload g r d) := by
  rcases g with ⟨t, (s | q)⟩
  · show BI.Storable upEmb (barPay t.1 d); unfold barPay; infer_instance
  · show BI.Storable upEmb (if q.val < 37 then sendPay m ρ t.1 (shiftOf q) else recvPay m ρ t.1 (shiftOf q))
    unfold sendPay recvPay; split <;> infer_instance

section Sched
variable (c d : Dev nD)

theorem duties_bar : (exRd (F := F) m ρ).duties (barCell c) 0 = Ge 1 := by dsimp only [exRd]; exact if_pos ⟨rfl, rfl⟩
theorem duties_send (hd : d ≠ 0) : (exRd (F := F) m ρ).duties (sendCell c d) 0 = {0} := by
  dsimp only [exRd]; rw [if_pos ⟨rfl, rfl⟩, if_pos ⟨Nat.le_add_right _ _, by rw [shiftOf_send]; exact hd⟩]
theorem duties_recv (hd : d ≠ 0) : (exRd (F := F) m ρ).duties (recvCell c d) 0 = {0} := by
  dsimp only [exRd]; rw [if_pos ⟨rfl, rfl⟩, if_pos ⟨by show 5 ≤ 37 + d.val; omega, by rw [shiftOf_recv]; exact hd⟩]
theorem duties_later (g : GSem nD τ sig) : ∀ r, 1 ≤ r → (exRd (F := F) m ρ).duties g r = ∅ :=
  fun r hr => by dsimp only [exRd]; exact if_neg fun h => by omega
theorem duties_send0 : ∀ r, 0 ≤ r → (exRd (F := F) m ρ).duties (sendCell c 0) r = ∅ :=
  fun r hr => by
    dsimp only [exRd]; split
    · exact if_neg fun h => h.2 (shiftOf_send 0)
    · rfl
theorem duties_recv0 : ∀ r, 0 ≤ r → (exRd (F := F) m ρ).duties (recvCell c 0) r = ∅ :=
  fun r hr => by
    dsimp only [exRd]; split
    · exact if_neg fun h => h.2 (shiftOf_recv 0)
    · rfl

theorem amount_bar (e : Dev nD) : (exRd (F := F) m ρ).amount (barCell c) 0 e = 1 := rfl
theorem amount_dma (q : DmaSem sig) (e : Dev nD) : (exRd (F := F) m ρ).amount ((c : Thread nD τ), .dma q) 0 e = N := rfl

theorem expect_bar : (exRd (F := F) m ρ).expect (barCell c) 0 = 31 := by
  unfold Schedule.expect Schedule.amountOf
  rw [duties_bar, Finset.sum_congr rfl fun d _ => amount_bar m ρ c d, Finset.sum_const, smul_eq_mul]; decide
theorem expect_send (hd : d ≠ 0) : (exRd (F := F) m ρ).expect (sendCell c d) 0 = N := by
  unfold Schedule.expect Schedule.amountOf; rw [duties_send m ρ c d hd, Finset.sum_singleton, amount_dma]
theorem expect_recv (hd : d ≠ 0) : (exRd (F := F) m ρ).expect (recvCell c d) 0 = N := by
  unfold Schedule.expect Schedule.amountOf; rw [duties_recv m ρ c d hd, Finset.sum_singleton, amount_dma]

theorem payload_bar (e : Dev nD) : (exRd (F := F) m ρ).payload (barCell c) 0 e = barPay c e := rfl
theorem payload_send (e : Dev nD) : (exRd (F := F) m ρ).payload (sendCell c d) 0 e = sendPay m ρ c d := by
  dsimp only [exRd]; rw [if_pos (by have := lt32 d; show 5 + d.val < 37; omega), shiftOf_send]
theorem payload_recv (e : Dev nD) : (exRd (F := F) m ρ).payload (recvCell c d) 0 e = recvPay m ρ c d := by
  dsimp only [exRd]; rw [if_neg (by show ¬ 37 + d.val < 37; omega), shiftOf_recv]

theorem rest_send (hd : d ≠ 0) : bigSep ((exRd (F := F) m ρ).duties (sendCell c d) 0 \ ∅) (fun e => (exRd (F := F) m ρ).payload (sendCell c d) 0 e) = sendPay m ρ c d := by
  rw [Finset.sdiff_empty, duties_send m ρ c d hd, bigSep_singleton, payload_send]
theorem rest_recv (hd : d ≠ 0) : bigSep ((exRd (F := F) m ρ).duties (recvCell c d) 0 \ ∅) (fun e => (exRd (F := F) m ρ).payload (recvCell c d) 0 e) = recvPay m ρ c d := by
  rw [Finset.sdiff_empty, duties_recv m ρ c d hd, bigSep_singleton, payload_recv]
/-- The barrier's round hands device `c`, from every other device, the slot its block goes to. -/
theorem rest_bar : bigSep ((exRd (F := F) m ρ).duties (barCell c) 0 \ ∅) (fun e => (exRd (F := F) m ρ).payload (barCell c) 0 e)
    = bigSep (Ge 1) fun e => iprop(∃ f, gPts (c + e) (slotSet e) fullShare f) := by
  rw [Finset.sdiff_empty, duties_bar]
  have hmap : (Ge 1 : Finset (Dev nD)) = (Ge 1).map negShift.toEmbedding := by decide
  conv_rhs => rw [hmap, bigSep_map]
  refine bigSep_congr fun e _ => ?_
  show barPay c e = iprop(∃ f, gPts (c + -e) (slotSet (-e)) fullShare f)
  unfold barPay; rw [show c - e = c + -e from by revert c e; decide]

end Sched

/-! ## What a device owes; the levels -/

/-- The credits of the landings still to be sent, the shifts from `n` on. -/
def Orecv (c : Dev nD) (n : ℕ) : CellTallies nD τ sig Unit := ∑ d ∈ Ge n, tallyAt (recvCell (c + d) d) () N
/-- The barrier units still to be given, the shifts from `n` on. -/
def Obar (c : Dev nD) (n : ℕ) : CellTallies nD τ sig Unit := ∑ d ∈ Ge n, tallyAt (barCell (c + d)) () 1
def O₀ (c : Dev nD) : CellTallies nD τ sig Unit := Orecv c 1 + Obar c 1

def L (g : GSem nD τ sig) : Finset Unit := if g.1.2 = .tc then {()} else ∅
/-- A barrier's cell at 1, a landing's at 2, every other at 0. -/
def lv (g : GSem nD τ sig) (_ : Unit) : ℕ := match g.2 with
  | .reg _ => 1
  | .dma q => if 37 ≤ q.val then 2 else 0

theorem L_of_ne (g : GSem nD τ sig) (h : g.1.2 ≠ .tc) : L g = ∅ := if_neg h
theorem L_tc (c : Dev nD) (sm : SemLoc sig) : L ((c : Thread nD τ), sm) = {()} := if_pos rfl

theorem tally_sum_pos {S : Finset (Dev nD)} {f : Dev nD → CellTallies nD τ sig Unit} {g : GSem nD τ sig} {u : Unit}
    (h : 0 < (∑ d ∈ S, f d) g u) : ∃ d ∈ S, 0 < f d g u := by
  rw [Finset.sum_apply, Finsupp.finset_sum_apply] at h
  by_contra hn
  exact absurd h (by rw [Finset.sum_eq_zero fun d hd => Nat.eq_zero_of_not_pos fun hp => hn ⟨d, hd, hp⟩]; exact Nat.lt_irrefl 0)

theorem tallyAt_pos {g g' : GSem nD τ sig} {k : ℕ} {u : Unit} (h : 0 < (tallyAt g () k : CellTallies nD τ sig Unit) g' u) : g' = g := by
  rw [tallyAt_apply] at h
  by_contra hn
  rw [if_neg (fun h' => hn h'.1)] at h
  exact Nat.lt_irrefl 0 h

theorem Orecv_pos {c : Dev nD} {n : ℕ} {g : GSem nD τ sig} {u : Unit} (h : 0 < Orecv c n g u) : ∃ d, g = recvCell (c + d) d := by
  obtain ⟨d, -, hd⟩ := tally_sum_pos h; exact ⟨d, tallyAt_pos hd⟩
theorem Obar_pos {c : Dev nD} {n : ℕ} {g : GSem nD τ sig} {u : Unit} (h : 0 < Obar c n g u) : ∃ d, g = barCell (c + d) := by
  obtain ⟨d, -, hd⟩ := tally_sum_pos h; exact ⟨d, tallyAt_pos hd⟩
theorem O₀_pos {c : Dev nD} {g : GSem nD τ sig} {u : Unit} (h : 0 < O₀ c g u) :
    (∃ d, g = recvCell (c + d) d) ∨ ∃ d, g = barCell (c + d) := by
  unfold O₀ at h
  rw [Pi.add_apply, Finsupp.add_apply] at h
  rcases Nat.eq_zero_or_pos (Orecv c 1 g u) with h0 | h0
  · rw [h0, Nat.zero_add] at h; exact Or.inr (Obar_pos h)
  · exact Or.inl (Orecv_pos h0)

theorem lv_recv (c d : Dev nD) (u : Unit) : lv (recvCell c d) u = 2 := if_pos (Nat.le_add_right _ _)
theorem lv_bar (c : Dev nD) (u : Unit) : lv (barCell c) u = 1 := rfl

omit [FloatOps F] in
/-- A staging wait is below everything owed. -/
theorem mayWait_stage (c : Dev nD) (q : DmaSem sig) (hq : q.val < 37) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨d, rfl⟩ | ⟨d, rfl⟩ <;> exact Finset.mem_singleton_self _)
      (fun p hp => by rw [Finset.mem_singleton.mp hp]; exact (if_neg (Nat.not_le_of_lt hq)).le)
      (fun g u hg => by
        rcases O₀_pos hg with ⟨d, rfl⟩ | ⟨d, rfl⟩
        · rw [lv_recv]; decide
        · rw [lv_bar]; decide)
  · rw [MayWait_zero]; iintro -; iempintro

omit [FloatOps F] in
/-- At the barrier wait only landings are owed: they are above the barrier. -/
theorem mayWait_bar (c : Dev nD) (n : ℕ) :
    (levAts L lv : sProp 𝕄) ⊢ MayWait (c : Thread nD τ) (.reg barS) () (Orecv c n) :=
  MayOwe.of_cut (L := L) (lev := lv) 1 (fun p hp => by rw [Finset.mem_singleton.mp hp, L_tc]; exact Finset.mem_singleton_self _)
    (fun g u hg => by obtain ⟨d, rfl⟩ := Orecv_pos hg; exact Finset.mem_singleton_self _)
    (fun p hp => by rw [Finset.mem_singleton.mp hp]; exact le_refl _)
    (fun g u hg => by obtain ⟨d, rfl⟩ := Orecv_pos hg; rw [lv_recv]; decide)

end Cert.Exchange

end
-- ==== Proof.Steps.lean ====
/-
# One step of each phase of the exchange

Four phases, each a run of thirty-one like operations, one per shift `n = 1 .. 31`: the barrier signals, the transfers,
the waits on the landings, the waits on the transfers' own semaphores. For each phase: what the device holds with the
shifts below `n` done, and the theorem that one operation takes it from `n` to `n + 1`. Every theorem carries the rest of
what the device holds, `R`, along.
-/
module

public import proofs.«01_k».proof.Proof.Protocol

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-- The program `p` on device `c` runs to `Q`. -/
abbrev Run (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## What everyone knows -/

/-- Every cell's invariant, at the names `K`, and that every cell is at round 0. -/
def records (K : Dev nD × Option (Fin 64) → ℕ) : sProp 𝕄 :=
  iprop((bigSep Finset.univ fun ck : Dev nD × Option (Fin 64) => cellInv EX (exRd m ρ) (K ck) (kcell ck))
    ∗ bigSep Finset.univ fun ck : Dev nD × Option (Fin 64) => reached EX (kcell ck) 0)

instance records_persistent (K : Dev nD × Option (Fin 64) → ℕ) : BI.Persistent (records m ρ K) := by unfold records; infer_instance

/-- The invariants, the reached rounds and the levels. -/
def Know (K : Dev nD × Option (Fin 64) → ℕ) : sProp 𝕄 := iprop(records m ρ K ∗ levAts L lv)

instance Know_persistent (K : Dev nD × Option (Fin 64) → ℕ) : BI.Persistent (Know m ρ K) := by unfold Know; infer_instance

variable (K : Dev nD × Option (Fin 64) → ℕ)

omit [FloatOps F] in
theorem one_of {I : Type} [Fintype I] [DecidableEq I] (Φ : I → sProp 𝕄) (i : I) : bigSep Finset.univ Φ ⊢ Φ i := bigSep_elim (Finset.mem_univ i)

theorem know_inv (ck : Dev nD × Option (Fin 64)) : Know m ρ K ⊢ cellInv EX (exRd m ρ) (K ck) (kcell ck) := by
  unfold Know records
  iintro ⟨⟨H, -⟩, -⟩
  iapply (one_of (fun ck : Dev nD × Option (Fin 64) => cellInv EX (exRd m ρ) (K ck) (kcell ck)) ck); iexact H
theorem know_reached (ck : Dev nD × Option (Fin 64)) : Know m ρ K ⊢ reached EX (kcell ck) 0 := by
  unfold Know records
  iintro ⟨⟨-, H⟩, -⟩
  iapply (one_of (fun ck : Dev nD × Option (Fin 64) => (reached EX (kcell ck) 0 : sProp 𝕄)) ck); iexact H

theorem inv_bar (c : Dev nD) : Know m ρ K ⊢ cellInv EX (exRd m ρ) (K (c, none)) (barCell c) := know_inv m ρ K (c, none)
theorem inv_send (c d : Dev nD) : Know m ρ K ⊢ cellInv EX (exRd m ρ) (K (c, kSend d)) (sendCell c d) := know_inv m ρ K (c, kSend d)
theorem inv_recv (c d : Dev nD) : Know m ρ K ⊢ cellInv EX (exRd m ρ) (K (c, kRecv d)) (recvCell c d) := by
  have h := know_inv m ρ K (c, kRecv d); rwa [kcell_recv] at h
theorem reached_bar (c : Dev nD) : Know m ρ K ⊢ reached EX (barCell c) 0 := know_reached m ρ K (c, none)
theorem reached_send (c d : Dev nD) : Know m ρ K ⊢ reached EX (sendCell c d) 0 := know_reached m ρ K (c, kSend d)
theorem reached_recv (c d : Dev nD) : Know m ρ K ⊢ reached EX (recvCell c d) 0 := by
  have h := know_reached m ρ K (c, kRecv d); rwa [kcell_recv] at h

/-- What device `c` owes, whatever it has waited for so far. -/
def owesE (c : Dev nD) (O : CellTallies nD τ sig Unit) : sProp 𝕄 := iprop(∃ W, owes (c : Thread nD τ) O W)

/-! ## The signals -/

/-- For the unit given to the device `d` places on: its duty, and the slot handed over. -/
def sigIn (c d : Dev nD) : sProp 𝕄 := iprop(dutyTok EX (barCell (c + d)) 0 d ∗ ∃ f, gPts c (slotSet (-d)) fullShare f)

/-- The signals of the shifts from `n` on are still to be given. -/
def sigSt (c : Dev nD) (n : ℕ) : sProp 𝕄 :=
  iprop(Know m ρ K ∗ owesE c (Orecv c 1 + Obar c n) ∗ bigSep (Ge n) fun d => sigIn c d)

theorem add_sub_shift (c d : Dev nD) : c + d - d = c := by revert c d; decide

theorem hO (n : ℕ) (hn : n < 32) (c : Dev nD) : (Orecv c 1 + Obar c n : CellTallies nD τ sig Unit) = (Orecv c 1 + Obar c (n + 1)) + tallyAt (barCell (c + ⟨n, hn⟩)) () 1 := by
  unfold Obar; rw [sum_Ge hn, add_assoc]

/-- One signal. -/
theorem signal_step (c : Dev nD) (n : ℕ) (hn : n < 32) (h0 : 1 ≤ n) {dev : Dev nD} (hdev : dev = c + ⟨n, hn⟩) {k' : ℕ} (hk : k' = 1)
    {α : Type} {k : PUnit → Prog (TpuEff nD τ sig (Elt F) Λ₀ .tc) α} {Q : α → sProp 𝕄} {R : sProp 𝕄}
    (h : iprop(sigSt m ρ K c (n + 1) ∗ R) ⊢ Run c (k ⟨⟩) Q) :
    iprop(sigSt m ρ K c n ∗ R) ⊢ Run c (.op (.semSignal (Dev.tc dev) barS k') k) Q := by
  subst hdev hk
  have hd : (⟨n, hn⟩ : Dev nD) ∈ Ge 1 := mem_Ge.mpr h0
  unfold sigSt owesE
  rw [sep_Ge hn]
  iintro ⟨⟨#HK, ⟨%W, HO⟩, ⟨Hin, Hrest⟩⟩, HR⟩
  unfold sigIn
  icases Hin with ⟨Htok, Hslot⟩
  iapply (Rounds.wp_signal 𝒱₀ EX (exRd m ρ) (c : Thread nD τ) none (dst := ((c + ⟨n, hn⟩ : Dev nD) : Thread nD τ)) (κ := K (c + ⟨n, hn⟩, none))
      (r := 0) (d := (⟨n, hn⟩ : Dev nD)) (by rw [duties_bar]; exact hd) (amount_bar m ρ _ _) () (O₀ := Orecv c 1 + Obar c n) (Orecv c 1 + Obar c (n + 1))
      (hO n hn c) (W := W)) $$ [HO Htok Hslot]
  · isplitr; · iapply (inv_bar m ρ K); iexact HK
    isplitl [HO]; · iexact HO
    isplitl [Htok]; · iexact Htok
    isplitl [Hslot]
    · rw [payload_bar]; unfold barPay; rw [add_sub_shift]; iexact Hslot
    · iapply (reached_bar m ρ K); iexact HK
  iintro HO
  iapply h
  isplitr [HR]
  · unfold sigSt owesE
    isplitr; · iexact HK
    isplitl [HO]; · iexists W; iexact HO
    unfold sigIn; iexact Hrest
  · iexact HR

/-! ## The transfers -/

/-- For the transfer to the device `d` places on: the two duties, the slot it lands in, and a share of slot 0. -/
def sendIn (c d : Dev nD) : sProp 𝕄 :=
  iprop(dutyTok EX (sendCell c d) 0 0 ∗ dutyTok EX (recvCell (c + d) d) 0 0 ∗ (∃ f, gPts (c + d) (slotSet d) fullShare f)
    ∗ gPts c (slotSet 0) (leafOf d) (gath m ρ c))

/-- The transfers of the shifts from `n` on are still to be started. -/
def sendSt (c : Dev nD) (n : ℕ) : sProp 𝕄 :=
  iprop(Know m ρ K ∗ owesE c (Orecv c n) ∗ (bigSep (Ge n) fun d => sendIn m ρ c d)
    ∗ bigSep (Bt n) fun d => cred (tallyAt (sendCell c d) () N))

theorem hOr (n : ℕ) (hn : n < 32) (c : Dev nD) : (Orecv c n : CellTallies nD τ sig Unit) = Orecv c (n + 1) + tallyAt (recvCell (c + ⟨n, hn⟩) ⟨n, hn⟩) () N := by
  unfold Orecv; rw [sum_Ge hn]

theorem src_back (c d : Dev nD) : (((slotM 0 zlt32).view.loc (c : Thread nD τ)) ↦[(slotM 0 zlt32).view.set]{leafOf d} (gath m ρ c) : sProp 𝕄)
    ⊢ (exRd m ρ).payload (sendCell c d) 0 0 := by
  rw [payload_send]; unfold sendPay gPts; rw [slotM_set]; exact BI.Entails.refl _

theorem landed_pts (c : Dev nD) (n : ℕ) (hn : n < 32) (f : (cc0_scratch0 : Ref sig .tc).ty.Contents (Elt F)) :
    gPts (c + ⟨n, hn⟩) (slotSet ⟨n, hn⟩) fullShare
      ((slotM n hn).view.write (Elt F) f ((slotM 0 zlt32).view.read (Elt F) (gath m ρ c)) Finset.univ)
    = recvPay m ρ (c + ⟨n, hn⟩) ⟨n, hn⟩ := by
  have hw : (slotM 0 zlt32).view.read (Elt F) (gath m ρ c) = yc m ρ (c + ⟨n, hn⟩ - ⟨n, hn⟩) := by rw [add_sub_shift]; exact read_own m ρ c
  rw [hw]
  unfold recvPay gPts
  generalize c + (⟨n, hn⟩ : Dev nD) = p
  refine pointsTo_congr fun i hi => ?_
  have h := landed_eq m ρ p n hn f _ rfl i hi
  exact h

theorem dst_landed (c : Dev nD) (n : ℕ) (hn : n < 32) (f : (cc0_scratch0 : Ref sig .tc).ty.Contents (Elt F)) :
    (((slotM n hn).view.loc ((c + ⟨n, hn⟩ : Dev nD) : Thread nD τ)) ↦[(slotM n hn).view.set]{fullShare}
      ((slotM n hn).view.write (Elt F) f ((slotM 0 zlt32).view.read (Elt F) (gath m ρ c)) Finset.univ) : sProp 𝕄)
    ⊢ (exRd m ρ).payload (recvCell (c + ⟨n, hn⟩) ⟨n, hn⟩) 0 0 := by
  rw [payload_recv, slotM_set]; exact Entails.of_eq (landed_pts m ρ c n hn f)

theorem gPts_slot (c : Dev nD) (n : ℕ) (hn : n < 32) (q : PosShare TreeShare) (f : (cc0_scratch0 : Ref sig .tc).ty.Contents (Elt F)) :
    (gPts c (slotSet ⟨n, hn⟩) q f : sProp 𝕄) = ((slotM n hn).view.loc (c : Thread nD τ) ↦[(slotM n hn).view.set]{q} f) := by
  rw [slotM_set]; rfl

/-- The rule for a transfer, at these cells. -/
theorem wp_send_shift (c : Dev nD) (n : ℕ) (hn : n < 32) (h0 : 1 ≤ n)
    {hsc : (slotM n hn : Memref sig (Dev.tc (c + ⟨n, hn⟩) : Thread nD τ).2.kind .vmem S24x512 .bf16).view.ref.isScScratch = false}
    {hsrc : (slotM 0 zlt32).view.WordExact} {hdst : (slotM n hn).view.WordExact}
    {hsem : DmaTarget.Typed .vmem (.dma (recvSem ⟨n, hn⟩)) (.remote (Dev.tc (c + ⟨n, hn⟩) : Thread nD τ) (slotM n hn) (.dma (sendSem ⟨n, hn⟩)) hsc)}
    {α : Type} {k : PUnit → Prog (TpuEff nD τ sig (Elt F) Λ₀ .tc) α} {Q : α → sProp 𝕄}
    (f : (cc0_scratch0 : Ref sig .tc).ty.Contents (Elt F)) (W : Waits sig Unit) :
    iprop(cellInv EX (exRd m ρ) (K (c, kSend ⟨n, hn⟩)) (sendCell c ⟨n, hn⟩)
        ∗ cellInv EX (exRd m ρ) (K (c + ⟨n, hn⟩, kRecv ⟨n, hn⟩)) (recvCell (c + ⟨n, hn⟩) ⟨n, hn⟩)
        ∗ gPts c (slotSet 0) (leafOf ⟨n, hn⟩) (gath m ρ c) ∗ gPts (c + ⟨n, hn⟩) (slotSet ⟨n, hn⟩) fullShare f
        ∗ owes (c : Thread nD τ) (Orecv c n) W
        ∗ dutyTok EX (sendCell c ⟨n, hn⟩) 0 0 ∗ reached EX (sendCell c ⟨n, hn⟩) 0
        ∗ dutyTok EX (recvCell (c + ⟨n, hn⟩) ⟨n, hn⟩) 0 0 ∗ reached EX (recvCell (c + ⟨n, hn⟩) ⟨n, hn⟩) 0)
      ⊢ iprop(((cred (tallyAt (sendCell c ⟨n, hn⟩) () N) ∗ owes (c : Thread nD τ) (Orecv c (n + 1)) W) -∗ Run c (k ⟨⟩) Q)
          -∗ Run c (.op (.enqueueDma (slotM 0 zlt32) (.remote (Dev.tc (c + ⟨n, hn⟩) : Thread nD τ) (slotM n hn) (.dma (sendSem ⟨n, hn⟩)) hsc) (.dma (recvSem ⟨n, hn⟩)) hsrc hdst hsem) k) Q) := by
  have hd : (⟨n, hn⟩ : Dev nD) ≠ 0 := fun e => by have := congrArg Fin.val e; change n = 0 at this; omega
  have hsd : (0 : Dev nD) ∈ (exRd m ρ).duties (sendCell c ⟨n, hn⟩) 0 := by rw [duties_send m ρ c _ hd]; exact Finset.mem_singleton_self _
  have hrd : (0 : Dev nD) ∈ (exRd m ρ).duties (recvCell (c + ⟨n, hn⟩) ⟨n, hn⟩) 0 := by rw [duties_recv m ρ _ _ hd]; exact Finset.mem_singleton_self _
  have h1 := src_back m ρ c ⟨n, hn⟩
  have h2 := dst_landed m ρ c n hn f
  have hO := hOr n hn c
  have hN : (slotM n hn).view.amount (.dma (recvSem ⟨n, hn⟩)) = N := slotM_credit n hn
  have hr : τ.routes (c : Thread nD τ) ((c + ⟨n, hn⟩ : Dev nD) : Thread nD τ) = true := by routes
  have ha1 : (exRd m ρ).amount (sendCell c ⟨n, hn⟩) 0 0 = N := amount_dma m ρ c _ _
  have ha2 : (exRd m ρ).amount (recvCell (c + ⟨n, hn⟩) ⟨n, hn⟩) 0 0 = N := amount_dma m ρ _ _ _
  rw [gPts_slot, show (0 : Dev nD) = ⟨0, zlt32⟩ from rfl, gPts_slot]
  generalize N = NN at *
  generalize Orecv c n = O1 at *
  generalize Orecv c (n + 1) = O2 at *
  have key := Rounds.wp_send_pointsTo (Γ := .empty) (defs := defs₀ (F := F)) 𝒱₀ EX (exRd m ρ) (c : Thread nD τ) none (src := slotM 0 zlt32) (dst := slotM n hn)
    (sem := .dma (recvSem ⟨n, hn⟩)) (sS := .dma (sendSem ⟨n, hn⟩)) (hsc := hsc) (hsrc := hsrc) (hdst := hdst) (hsem := hsem) (k := k) (Q := Q)
    (Es := Set.univ) (c' := ((c + ⟨n, hn⟩ : Dev nD) : Thread nD τ)) (κ₁ := K (c, kSend ⟨n, hn⟩)) (κ₂ := K (c + ⟨n, hn⟩, kRecv ⟨n, hn⟩))
    (r₁ := 0) (r₂ := 0) (d₁ := 0) (d₂ := 0) (fs := gath m ρ c) (fd := f) (q := leafOf ⟨n, hn⟩) hsd hrd
    () () NN hN ha1 ha2 (O₀ := O1) O2 hO (W := W) h1 h2 (hr := hr)
  exact key

/-- One transfer. -/
theorem send_step (c : Dev nD) (n : ℕ) (hn : n < 32) (h0 : 1 ≤ n) {dev : Dev nD} (hdev : dev = c + ⟨n, hn⟩) {sS sR : DmaSem sig}
    (hS : sS = sendSem ⟨n, hn⟩) (hR : sR = recvSem ⟨n, hn⟩)
    {hsc : (slotM n hn : Memref sig (Dev.tc dev : Thread nD τ).2.kind .vmem S24x512 .bf16).view.ref.isScScratch = false}
    {hsrc : (slotM 0 zlt32).view.WordExact} {hdst : (slotM n hn).view.WordExact}
    {hsem : DmaTarget.Typed .vmem (.dma sR) (.remote (Dev.tc dev : Thread nD τ) (slotM n hn) (.dma sS) hsc)}
    {α : Type} {k : PUnit → Prog (TpuEff nD τ sig (Elt F) Λ₀ .tc) α} {Q : α → sProp 𝕄} {R : sProp 𝕄}
    (h : iprop(sendSt m ρ K c (n + 1) ∗ R) ⊢ Run c (k ⟨⟩) Q) :
    iprop(sendSt m ρ K c n ∗ R) ⊢ Run c (.op (.enqueueDma (slotM 0 zlt32) (.remote (Dev.tc dev : Thread nD τ) (slotM n hn) (.dma sS) hsc) (.dma sR) hsrc hdst hsem) k) Q := by
  subst hdev hS hR
  have hd : (⟨n, hn⟩ : Dev nD) ≠ 0 := fun e => by have := congrArg Fin.val e; change n = 0 at this; omega
  unfold sendSt owesE
  rw [sep_Ge hn]
  iintro ⟨⟨#HK, ⟨%W, HO⟩, ⟨Hin, Hrest⟩, Hdone⟩, HR⟩
  unfold sendIn
  icases Hin with ⟨HtS, HtR, ⟨%fd, Hdst⟩, Hsrc⟩
  iapply (wp_send_shift m ρ K c n hn h0 fd W)
    $$ [HtS HtR Hdst Hsrc HO]
  · isplitr; · iapply (inv_send m ρ K); iexact HK
    isplitr; · iapply (inv_recv m ρ K); iexact HK
    isplitl [Hsrc]; · iexact Hsrc
    isplitl [Hdst]; · iexact Hdst
    isplitl [HO]; · iexact HO
    isplitl [HtS]; · iexact HtS
    isplitr; · iapply (reached_send m ρ K); iexact HK
    isplitl [HtR]; · iexact HtR
    iapply (reached_recv m ρ K); iexact HK
  iintro ⟨Hc, HO⟩
  iapply h
  isplitr [HR]
  · unfold sendSt owesE
    isplitr; · iexact HK
    isplitl [HO]; · iexists W; iexact HO
    isplitl [Hrest]; · unfold sendIn; iexact Hrest
    rw [sep_Bt hn h0]
    isplitl [Hc]; · iexact Hc
    iexact Hdone
  · iexact HR

/-! ## The waits on the landings -/

def recvIn (c d : Dev nD) : sProp 𝕄 := iprop(atPos EX (recvCell c d) 0 ∅ 0 ∗ cred (tallyAt (recvCell c d) () N))
def recvOut (c d : Dev nD) : sProp 𝕄 := iprop(semVal (recvCell c d) 0 ∗ gPts c (slotSet d) fullShare (gath m ρ c))

/-- The landings of the shifts below `n` have been waited for. -/
def recvSt (c : Dev nD) (n : ℕ) : sProp 𝕄 :=
  iprop(Know m ρ K ∗ owesE c 0 ∗ (bigSep (Ge n) fun d => recvIn c d) ∗ bigSep (Bt n) fun d => recvOut m ρ c d)

/-- One wait on a landing: its slot comes with its final contents, and its semaphore is closed at zero. -/
theorem recv_step (c : Dev nD) (n : ℕ) (hn : n < 32) (h0 : 1 ≤ n) {sR : DmaSem sig} (hR : sR = recvSem ⟨n, hn⟩)
    {src : Memref sig .tc .vmem S24x512 .bf16} {hsrc : src.view.WordExact} {hdst : (slotM n hn).view.WordExact}
    {α : Type} {k : PUnit → Prog (TpuEff nD τ sig (Elt F) Λ₀ .tc) α} {Q : α → sProp 𝕄} {R : sProp 𝕄}
    (h : iprop(recvSt m ρ K c (n + 1) ∗ R) ⊢ Run c (k ⟨⟩) Q) :
    iprop(recvSt m ρ K c n ∗ R) ⊢ Run c (.op (.waitDma2 sR src (slotM n hn) hsrc hdst) k) Q := by
  subst hR
  have hd : (⟨n, hn⟩ : Dev nD) ≠ 0 := fun e => by have := congrArg Fin.val e; change n = 0 at this; omega
  unfold recvSt owesE
  rw [sep_Ge hn]
  iintro ⟨⟨#HK, ⟨%W, HO⟩, ⟨Hin, Hrest⟩, Hdone⟩, HR⟩
  unfold recvIn
  icases Hin with ⟨Hat, Hc⟩
  iapply (Rounds.wp_wait_rest_token 𝒱₀ EX (exRd m ρ) (c : Thread nD τ) none (κ := K (c, kRecv ⟨n, hn⟩))
      (wpE_waitDma2_eq 𝒱₀ (c : Thread nD τ) none Set.univ) (Set.mem_univ _) () (O := 0) (W := W) (R := 0) (m := 0) (T := ∅)
      (by rw [Nat.zero_add, expect_recv m ρ c _ hd])) $$ [Hc HO Hat]
  · isplitr; · iapply (inv_recv m ρ K); iexact HK
    isplitl [Hc]; · iexact Hc
    isplitl [HO]; · iexact HO
    isplitr; · rw [MayWait_zero]; iempintro
    iexact Hat
  iintro ⟨HO, Hat, -, Hpay⟩
  ihave Hp := (Entails.of_eq (rest_recv m ρ c _ hd)) $$ Hpay
  imod (Rounds.cell_close EX (exRd m ρ) (Set.mem_univ (K (c, kRecv ⟨n, hn⟩))) (fun h => h) (R := 0 + 1) (duties_later m ρ (recvCell c ⟨n, hn⟩))) $$ [Hat] with Hz
  · isplitr; · iapply (inv_recv m ρ K); iexact HK
    iexact Hat
  iapply h
  isplitr [HR]
  · unfold recvSt owesE
    isplitr; · iexact HK
    isplitl [HO]; · iexists _; iexact HO
    isplitl [Hrest]; · unfold recvIn; iexact Hrest
    rw [sep_Bt hn h0]
    isplitr [Hdone]
    · unfold recvOut recvPay
      isplitl [Hz]; · iexact Hz
      iexact Hp
    iexact Hdone
  · iexact HR

/-! ## The waits on the transfers' own semaphores -/

def doneIn (c d : Dev nD) : sProp 𝕄 := iprop(atPos EX (sendCell c d) 0 ∅ 0 ∗ cred (tallyAt (sendCell c d) () N))
def doneOut (c d : Dev nD) : sProp 𝕄 := iprop(semVal (sendCell c d) 0 ∗ gPts c (slotSet 0) (leafOf d) (gath m ρ c))

/-- The transfers of the shifts below `n` are known to have been read out. -/
def doneSt (c : Dev nD) (n : ℕ) : sProp 𝕄 :=
  iprop(Know m ρ K ∗ owesE c 0 ∗ (bigSep (Ge n) fun d => doneIn c d) ∗ bigSep (Bt n) fun d => doneOut m ρ c d)

/-- One wait on a transfer's own semaphore: its share of slot 0 comes back, and the semaphore is closed at zero. -/
theorem done_step (c : Dev nD) (n : ℕ) (hn : n < 32) (h0 : 1 ≤ n) {sS : DmaSem sig} (hS : sS = sendSem ⟨n, hn⟩)
    {src : Memref sig .tc .vmem S24x512 .bf16} {hsrc : src.view.WordExact} {hdst : (slotM 0 zlt32).view.WordExact}
    {α : Type} {k : PUnit → Prog (TpuEff nD τ sig (Elt F) Λ₀ .tc) α} {Q : α → sProp 𝕄} {R : sProp 𝕄}
    (h : iprop(doneSt m ρ K c (n + 1) ∗ R) ⊢ Run c (k ⟨⟩) Q) :
    iprop(doneSt m ρ K c n ∗ R) ⊢ Run c (.op (.waitDma2 sS src (slotM 0 zlt32) hsrc hdst) k) Q := by
  subst hS
  have hd : (⟨n, hn⟩ : Dev nD) ≠ 0 := fun e => by have := congrArg Fin.val e; change n = 0 at this; omega
  unfold doneSt owesE
  rw [sep_Ge hn]
  iintro ⟨⟨#HK, ⟨%W, HO⟩, ⟨Hin, Hrest⟩, Hdone⟩, HR⟩
  unfold doneIn
  icases Hin with ⟨Hat, Hc⟩
  iapply (Rounds.wp_wait_rest_token 𝒱₀ EX (exRd m ρ) (c : Thread nD τ) none (κ := K (c, kSend ⟨n, hn⟩))
      (wpE_waitDma2_eq 𝒱₀ (c : Thread nD τ) none Set.univ) (Set.mem_univ _) () (O := 0) (W := W) (R := 0) (m := 0) (T := ∅)
      (by rw [Nat.zero_add, expect_send m ρ c _ hd])) $$ [Hc HO Hat]
  · isplitr; · iapply (inv_send m ρ K); iexact HK
    isplitl [Hc]; · iexact Hc
    isplitl [HO]; · iexact HO
    isplitr; · rw [MayWait_zero]; iempintro
    iexact Hat
  iintro ⟨HO, Hat, -, Hpay⟩
  ihave Hp := (Entails.of_eq (rest_send m ρ c _ hd)) $$ Hpay
  imod (Rounds.cell_close EX (exRd m ρ) (Set.mem_univ (K (c, kSend ⟨n, hn⟩))) (fun h => h) (R := 0 + 1) (duties_later m ρ (sendCell c ⟨n, hn⟩))) $$ [Hat] with Hz
  · isplitr; · iapply (inv_send m ρ K); iexact HK
    iexact Hat
  iapply h
  isplitr [HR]
  · unfold doneSt owesE
    isplitr; · iexact HK
    isplitl [HO]; · iexists _; iexact HO
    isplitl [Hrest]; · unfold doneIn; iexact Hrest
    rw [sep_Bt hn h0]
    isplitr [Hdone]
    · unfold doneOut sendPay
      isplitl [Hz]; · iexact Hz
      iexact Hp
    iexact Hdone
  · iexact HR

/-! ## The barrier wait -/

theorem know_mayWait (c : Dev nD) : Know m ρ K ⊢ MayWait (c : Thread nD τ) (.reg barS) () (Orecv c 1) := by
  unfold Know
  iintro ⟨-, H⟩
  iapply (mayWait_bar (F := F) c 1); iexact H

/-- The wait for the thirty-one units: the slots the device's block goes to come with them, and the barrier's semaphore is
    closed at zero. -/
theorem barrier_step (c : Dev nD) {k' : ℕ} (hk : k' = 31)
    {α : Type} {k : PUnit → Prog (TpuEff nD τ sig (Elt F) Λ₀ .tc) α} {Q : α → sProp 𝕄} {R : sProp 𝕄}
    (h : iprop((Know m ρ K ∗ owesE c (Orecv c 1) ∗ semVal (barCell c) 0 ∗ bigSep (Ge 1) fun e => iprop(∃ f, gPts (c + e) (slotSet e) fullShare f)) ∗ R)
      ⊢ Run c (k ⟨⟩) Q) :
    iprop((Know m ρ K ∗ owesE c (Orecv c 1) ∗ atPos EX (barCell c) 0 ∅ 0 ∗ cred (tallyAt (barCell c) () 31)) ∗ R)
      ⊢ Run c (.op (.semWait barS k') k) Q := by
  subst hk
  unfold owesE
  iintro ⟨⟨#HK, ⟨%W, HO⟩, Hat, Hc⟩, HR⟩
  iapply (Rounds.wp_wait_rest_token 𝒱₀ EX (exRd m ρ) (c : Thread nD τ) none (κ := K (c, none))
      (wpE_semWait_eq 𝒱₀ (c : Thread nD τ) none Set.univ) (Set.mem_univ _) () (O := Orecv c 1) (W := W) (R := 0) (m := 0) (T := ∅)
      (by rw [expect_bar])) $$ [Hc HO Hat]
  · isplitr; · iapply (inv_bar m ρ K); iexact HK
    isplitl [Hc]; · iexact Hc
    isplitl [HO]; · iexact HO
    isplitr; · iapply (know_mayWait m ρ K c); iexact HK
    iexact Hat
  iintro ⟨HO, Hat, -, Hpay⟩
  ihave Hp := (Entails.of_eq (rest_bar m ρ c)) $$ Hpay
  imod (Rounds.cell_close EX (exRd m ρ) (Set.mem_univ (K (c, none))) (fun h => h) (R := 0 + 1) (duties_later m ρ (barCell c))) $$ [Hat] with Hz
  · isplitr; · iapply (inv_bar m ρ K); iexact HK
    iexact Hat
  iapply h
  isplitr [HR]
  · isplitr; · iexact HK
    isplitl [HO]; · unfold owesE; iexists _; iexact HO
    isplitl [Hz]; · iexact Hz
    iexact Hp
  · iexact HR

end Cert.Exchange

end
-- ==== Proof.Parts.lean ====
/-
# The runs of like operations

The program is cut into thirty-six parts. This module runs the parts that hold only signals, only transfers or only waits,
each by the step theorem of its phase, one line per operation.
-/
module

public import proofs.«01_k».proof.Proof.Steps

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Option (Fin 64) → ℕ)

/-- A part of the program, on the buffers and semaphores the kernel is called with. -/
abbrev onBufs {β : Sort _} (f : (arg0 : Memref sig .tc .vmem S1024x256 .f32) → arg0.IsWhole → (arg1 : Memref sig .tc .vmem S256x128 .f32) → arg1.IsWhole →
    (arg2 : Memref sig .tc .vmem S1024x1 .i32) → arg2.IsWhole → (arg3 : Memref sig .tc .vmem S4x256x512 .f32) → arg3.IsWhole →
    (arg4 : Memref sig .tc .vmem S1024x512 .f32) → arg4.IsWhole → (arg5 : Memref sig .tc .vmem S768x512 .bf16) → arg5.IsWhole →
    DmaSems sig S32 → DmaSems sig S32 → β) : β :=
  f (Memref.whole cc0_stg0_0) (Memref.isWhole_whole _) (Memref.whole cc0_stg1_0) (Memref.isWhole_whole _) (Memref.whole cc0_stg2_0) (Memref.isWhole_whole _)
    (Memref.whole cc0_stg3_0) (Memref.isWhole_whole _) (Memref.whole cc0_stg4_0) (Memref.isWhole_whole _) (Memref.whole cc0_scratch0) (Memref.isWhole_whole _)
    cc0_scratch1 cc0_scratch2

/-- The barrier's semaphore as the program names it. -/
abbrev barSems : Sems sig S_ := SemArray.scalar (sig.barrier 0 rfl)

/-- The device a word names, `n` places on from `c`. -/
theorem placesOn {c : Dev nD} {v n : ℕ} {hv : v < nD} (hn : n < 32) (h : v = (c.val + n) % 32) : (⟨v, hv⟩ : Dev nD) = c + ⟨n, hn⟩ := Fin.ext h

variable (c : Dev nD)

theorem run_ret {α : Type} {P : sProp 𝕄} {a : α} {Q : α → sProp 𝕄} (h : P ⊢ Q a) : P ⊢ Run c (.ret a) Q := by
  unfold Run; rw [wp_ret]; exact h.trans BI.fupd_intro

/-! ## Signals -/

theorem part2 {v w : BitVec 32} {R : sProp 𝕄} {Q : (Σ' _ : BitVec 32, BitVec 32) → sProp 𝕄} (h : ∀ r, iprop(sigSt m ρ K c 12 ∗ R) ⊢ Q r) :
    iprop(sigSt m ρ K c 6 ∗ R) ⊢ Run c (onBufs (k0_part2 (F := F)) c (myPos c) barSems v w) Q := by
  simp only [onBufs, k0_part2_eq_skeleton]; unfold k0_part2_skel
  simp only [semSignalWord, Prog.bind_op, Prog.bind_ret, Prog.pure_eq_ret]
  refine signal_step m ρ K c 6 (by decide) (by decide) (placesOn _ (k0_dev6_eq c)) rfl ?_
  refine signal_step m ρ K c 7 (by decide) (by decide) (placesOn _ (k0_dev7_eq c)) rfl ?_
  refine signal_step m ρ K c 8 (by decide) (by decide) (placesOn _ (k0_dev8_eq c)) rfl ?_
  refine signal_step m ρ K c 9 (by decide) (by decide) (placesOn _ (k0_dev9_eq c)) rfl ?_
  refine signal_step m ρ K c 10 (by decide) (by decide) (placesOn _ (k0_dev10_eq c)) rfl ?_
  refine signal_step m ρ K c 11 (by decide) (by decide) (placesOn _ (k0_dev11_eq c)) rfl ?_
  exact run_ret c (h _)

theorem part3 {v w : BitVec 32} {R : sProp 𝕄} {Q : (Σ' _ : BitVec 32, BitVec 32) → sProp 𝕄} (h : ∀ r, iprop(sigSt m ρ K c 18 ∗ R) ⊢ Q r) :
    iprop(sigSt m ρ K c 12 ∗ R) ⊢ Run c (onBufs (k0_part3 (F := F)) c (myPos c) barSems v w) Q := by
  simp only [onBufs, k0_part3_eq_skeleton]; unfold k0_part3_skel
  simp only [semSignalWord, Prog.bind_op, Prog.bind_ret, Prog.pure_eq_ret]
  refine signal_step m ρ K c 12 (by decide) (by decide) (placesOn _ (k0_dev12_eq c)) rfl ?_
  refine signal_step m ρ K c 13 (by decide) (by decide) (placesOn _ (k0_dev13_eq c)) rfl ?_
  refine signal_step m ρ K c 14 (by decide) (by decide) (placesOn _ (k0_dev14_eq c)) rfl ?_
  refine signal_step m ρ K c 15 (by decide) (by decide) (placesOn _ (k0_dev15_eq c)) rfl ?_
  refine signal_step m ρ K c 16 (by decide) (by decide) (placesOn _ (k0_dev16_eq c)) rfl ?_
  refine signal_step m ρ K c 17 (by decide) (by decide) (placesOn _ (k0_dev17_eq c)) rfl ?_
  exact run_ret c (h _)

theorem part4 {v w : BitVec 32} {R : sProp 𝕄} {Q : (Σ' _ : BitVec 32, BitVec 32) → sProp 𝕄} (h : ∀ r, iprop(sigSt m ρ K c 24 ∗ R) ⊢ Q r) :
    iprop(sigSt m ρ K c 18 ∗ R) ⊢ Run c (onBufs (k0_part4 (F := F)) c (myPos c) barSems v w) Q := by
  simp only [onBufs, k0_part4_eq_skeleton]; unfold k0_part4_skel
  simp only [semSignalWord, Prog.bind_op, Prog.bind_ret, Prog.pure_eq_ret]
  refine signal_step m ρ K c 18 (by decide) (by decide) (placesOn _ (k0_dev18_eq c)) rfl ?_
  refine signal_step m ρ K c 19 (by decide) (by decide) (placesOn _ (k0_dev19_eq c)) rfl ?_
  refine signal_step m ρ K c 20 (by decide) (by decide) (placesOn _ (k0_dev20_eq c)) rfl ?_
  refine signal_step m ρ K c 21 (by decide) (by decide) (placesOn _ (k0_dev21_eq c)) rfl ?_
  refine signal_step m ρ K c 22 (by decide) (by decide) (placesOn _ (k0_dev22_eq c)) rfl ?_
  refine signal_step m ρ K c 23 (by decide) (by decide) (placesOn _ (k0_dev23_eq c)) rfl ?_
  exact run_ret c (h _)

theorem part5 {v w : BitVec 32} {R : sProp 𝕄} {Q : (Σ' _ : BitVec 32, BitVec 32) → sProp 𝕄} (h : ∀ r, iprop(sigSt m ρ K c 30 ∗ R) ⊢ Q r) :
    iprop(sigSt m ρ K c 24 ∗ R) ⊢ Run c (onBufs (k0_part5 (F := F)) c (myPos c) barSems v w) Q := by
  simp only [onBufs, k0_part5_eq_skeleton]; unfold k0_part5_skel
  simp only [semSignalWord, Prog.bind_op, Prog.bind_ret, Prog.pure_eq_ret]
  refine signal_step m ρ K c 24 (by decide) (by decide) (placesOn _ (k0_dev24_eq c)) rfl ?_
  refine signal_step m ρ K c 25 (by decide) (by decide) (placesOn _ (k0_dev25_eq c)) rfl ?_
  refine signal_step m ρ K c 26 (by decide) (by decide) (placesOn _ (k0_dev26_eq c)) rfl ?_
  refine signal_step m ρ K c 27 (by decide) (by decide) (placesOn _ (k0_dev27_eq c)) rfl ?_
  refine signal_step m ρ K c 28 (by decide) (by decide) (placesOn _ (k0_dev28_eq c)) rfl ?_
  refine signal_step m ρ K c 29 (by decide) (by decide) (placesOn _ (k0_dev29_eq c)) rfl ?_
  exact run_ret c (h _)

/-! ## Transfers -/

theorem part9 {v w : BitVec 32} {R : sProp 𝕄} {Q : BitVec 32 → sProp 𝕄} (h : ∀ r, iprop(sendSt m ρ K c 5 ∗ R) ⊢ Q r) :
    iprop(sendSt m ρ K c 2 ∗ R) ⊢ Run c (onBufs (k0_part9 (F := F)) c v w) Q := by
  simp only [onBufs, k0_part9_eq_skeleton]; unfold k0_part9_skel
  simp only [Prog.lift, Prog.bind_op, Prog.bind_ret, Prog.pure_eq_ret]
  refine send_step m ρ K c 2 (by decide) (by decide) (placesOn _ (k0_dev33_eq c)) rfl rfl ?_
  refine send_step m ρ K c 3 (by decide) (by decide) (placesOn _ (k0_dev34_eq c)) rfl rfl ?_
  refine send_step m ρ K c 4 (by decide) (by decide) (placesOn _ (k0_dev35_eq c)) rfl rfl ?_
  exact run_ret c (h _)

theorem part10 {v w : BitVec 32} {R : sProp 𝕄} {Q : BitVec 32 → sProp 𝕄} (h : ∀ r, iprop(sendSt m ρ K c 8 ∗ R) ⊢ Q r) :
    iprop(sendSt m ρ K c 5 ∗ R) ⊢ Run c (onBufs (k0_part10 (F := F)) c v w) Q := by
  simp only [onBufs, k0_part10_eq_skeleton]; unfold k0_part10_skel
  simp only [Prog.lift, Prog.bind_op, Prog.bind_ret, Prog.pure_eq_ret]
  refine send_step m ρ K c 5 (by decide) (by decide) (placesOn _ (k0_dev36_eq c)) rfl rfl ?_
  refine send_step m ρ K c 6 (by decide) (by decide) (placesOn _ (k0_dev37_eq c)) rfl rfl ?_
  refine send_step m ρ K c 7 (by decide) (by decide) (placesOn _ (k0_dev38_eq c)) rfl rfl ?_
  exact run_ret c (h _)

theorem part11 {v w : BitVec 32} {R : sProp 𝕄} {Q : PUnit → sProp 𝕄} (h : ∀ r, iprop(sendSt m ρ K c 10 ∗ R) ⊢ Q r) :
    iprop(sendSt m ρ K c 8 ∗ R) ⊢ Run c (onBufs (k0_part11 (F := F)) c v w) Q := by
  simp only [onBufs, k0_part11_eq_skeleton]; unfold k0_part11_skel
  simp only [Prog.lift, Prog.bind_op, Prog.bind_ret, Prog.pure_eq_ret]
  refine send_step m ρ K c 8 (by decide) (by decide) (placesOn _ (k0_dev39_eq c)) rfl rfl ?_
  refine send_step m ρ K c 9 (by decide) (by decide) (placesOn _ (k0_dev40_eq c)) rfl rfl ?_
  exact run_ret c (h _)

theorem part12 {v : BitVec 32} {R : sProp 𝕄} {Q : PUnit → sProp 𝕄} (h : ∀ r, iprop(sendSt m ρ K c 13 ∗ R) ⊢ Q r) :
    iprop(sendSt m ρ K c 10 ∗ R) ⊢ Run c (onBufs (k0_part12 (F := F)) c v) Q := by
  simp only [onBufs, k0_part12_eq_skeleton]; unfold k0_part12_skel
  simp only [Prog.lift, Prog.bind_op, Prog.bind_ret, Prog.pure_eq_ret]
  refine send_step m ρ K c 10 (by decide) (by decide) (placesOn _ (k0_dev41_eq c)) rfl rfl ?_
  refine send_step m ρ K c 11 (by decide) (by decide) (placesOn _ (k0_dev42_eq c)) rfl rfl ?_
  refine send_step m ρ K c 12 (by decide) (by decide) (placesOn _ (k0_dev43_eq c)) rfl rfl ?_
  exact run_ret c (h _)

theorem part13 {v : BitVec 32} {R : sProp 𝕄} {Q : PUnit → sProp 𝕄} (h : ∀ r, iprop(sendSt m ρ K c 16 ∗ R) ⊢ Q r) :
    iprop(sendSt m ρ K c 13 ∗ R) ⊢ Run c (onBufs (k0_part13 (F := F)) c v) Q := by
  simp only [onBufs, k0_part13_eq_skeleton]; unfold k0_part13_skel
  simp only [Prog.lift, Prog.bind_op, Prog.bind_ret, Prog.pure_eq_ret]
  refine send_step m ρ K c 13 (by decide) (by decide) (placesOn _ (k0_dev44_eq c)) rfl rfl ?_
  refine send_step m ρ K c 14 (by decide) (by decide) (placesOn _ (k0_dev45_eq c)) rfl rfl ?_
  refine send_step m ρ K c 15 (by decide) (by decide) (placesOn _ (k0_dev46_eq c)) rfl rfl ?_
  exact run_ret c (h _)

theorem part14 {v : BitVec 32} {R : sProp 𝕄} {Q : PUnit → sProp 𝕄} (h : ∀ r, iprop(sendSt m ρ K c 19 ∗ R) ⊢ Q r) :
    iprop(sendSt m ρ K c 16 ∗ R) ⊢ Run c (onBufs (k0_part14 (F := F)) c v) Q := by
  simp only [onBufs, k0_part14_eq_skeleton]; unfold k0_part14_skel
  simp only [Prog.lift, Prog.bind_op, Prog.bind_ret, Prog.pure_eq_ret]
  refine send_step m ρ K c 16 (by decide) (by decide) (placesOn _ (k0_dev47_eq c)) rfl rfl ?_
  refine send_step m ρ K c 17 (by decide) (by decide) (placesOn _ (k0_dev48_eq c)) rfl rfl ?_
  refine send_step m ρ K c 18 (by decide) (by decide) (placesOn _ (k0_dev49_eq c)) rfl rfl ?_
  exact run_ret c (h _)

theorem part15 {v : BitVec 32} {R : sProp 𝕄} {Q : BitVec 32 → sProp 𝕄} (h : ∀ r, iprop(sendSt m ρ K c 22 ∗ R) ⊢ Q r) :
    iprop(sendSt m ρ K c 19 ∗ R) ⊢ Run c (onBufs (k0_part15 (F := F)) c v) Q := by
  simp only [onBufs, k0_part15_eq_skeleton]; unfold k0_part15_skel
  simp only [Prog.lift, Prog.bind_op, Prog.bind_ret, Prog.pure_eq_ret]
  refine send_step m ρ K c 19 (by decide) (by decide) (placesOn _ (k0_dev50_eq c)) rfl rfl ?_
  refine send_step m ρ K c 20 (by decide) (by decide) (placesOn _ (k0_dev51_eq c)) rfl rfl ?_
  refine send_step m ρ K c 21 (by decide) (by decide) (placesOn _ (k0_dev52_eq c)) rfl rfl ?_
  exact run_ret c (h _)

theorem part16 {v w : BitVec 32} {R : sProp 𝕄} {Q : BitVec 32 → sProp 𝕄} (h : ∀ r, iprop(sendSt m ρ K c 25 ∗ R) ⊢ Q r) :
    iprop(sendSt m ρ K c 22 ∗ R) ⊢ Run c (onBufs (k0_part16 (F := F)) c v w) Q := by
  simp only [onBufs, k0_part16_eq_skeleton]; unfold k0_part16_skel
  simp only [Prog.lift, Prog.bind_op, Prog.bind_ret, Prog.pure_eq_ret]
  refine send_step m ρ K c 22 (by decide) (by decide) (placesOn _ (k0_dev53_eq c)) rfl rfl ?_
  refine send_step m ρ K c 23 (by decide) (by decide) (placesOn _ (k0_dev54_eq c)) rfl rfl ?_
  refine send_step m ρ K c 24 (by decide) (by decide) (placesOn _ (k0_dev55_eq c)) rfl rfl ?_
  exact run_ret c (h _)

theorem part17 {v w : BitVec 32} {R : sProp 𝕄} {Q : BitVec 32 → sProp 𝕄} (h : ∀ r, iprop(sendSt m ρ K c 28 ∗ R) ⊢ Q r) :
    iprop(sendSt m ρ K c 25 ∗ R) ⊢ Run c (onBufs (k0_part17 (F := F)) c v w) Q := by
  simp only [onBufs, k0_part17_eq_skeleton]; unfold k0_part17_skel
  simp only [Prog.lift, Prog.bind_op, Prog.bind_ret, Prog.pure_eq_ret]
  refine send_step m ρ K c 25 (by decide) (by decide) (placesOn _ (k0_dev56_eq c)) rfl rfl ?_
  refine send_step m ρ K c 26 (by decide) (by decide) (placesOn _ (k0_dev57_eq c)) rfl rfl ?_
  refine send_step m ρ K c 27 (by decide) (by decide) (placesOn _ (k0_dev58_eq c)) rfl rfl ?_
  exact run_ret c (h _)

theorem part18 {v w : BitVec 32} {R : sProp 𝕄} {Q : PUnit → sProp 𝕄} (h : ∀ r, iprop(sendSt m ρ K c 30 ∗ R) ⊢ Q r) :
    iprop(sendSt m ρ K c 28 ∗ R) ⊢ Run c (onBufs (k0_part18 (F := F)) c v w) Q := by
  simp only [onBufs, k0_part18_eq_skeleton]; unfold k0_part18_skel
  simp only [Prog.lift, Prog.bind_op, Prog.bind_ret, Prog.pure_eq_ret]
  refine send_step m ρ K c 28 (by decide) (by decide) (placesOn _ (k0_dev59_eq c)) rfl rfl ?_
  refine send_step m ρ K c 29 (by decide) (by decide) (placesOn _ (k0_dev60_eq c)) rfl rfl ?_
  exact run_ret c (h _)

/-! ## Waits on the landings -/

theorem part22 {R : sProp 𝕄} {Q : PUnit → sProp 𝕄} (h : ∀ r, iprop(recvSt m ρ K c 6 ∗ R) ⊢ Q r) :
    iprop(recvSt m ρ K c 2 ∗ R) ⊢ Run c (onBufs (k0_part22 (F := F))) Q := by
  simp only [onBufs, k0_part22_eq_skeleton]; unfold k0_part22_skel
  simp only [Prog.lift, Prog.bind_op, Prog.bind_ret, Prog.pure_eq_ret]
  refine recv_step m ρ K c 2 (by decide) (by decide) rfl ?_
  refine recv_step m ρ K c 3 (by decide) (by decide) rfl ?_
  refine recv_step m ρ K c 4 (by decide) (by decide) rfl ?_
  refine recv_step m ρ K c 5 (by decide) (by decide) rfl ?_
  exact run_ret c (h _)

theorem part23 {R : sProp 𝕄} {Q : (Σ' _ : BitVec 32, BitVec 32) → sProp 𝕄} (h : ∀ r, iprop(recvSt m ρ K c 10 ∗ R) ⊢ Q r) :
    iprop(recvSt m ρ K c 6 ∗ R) ⊢ Run c (onBufs (k0_part23 (F := F))) Q := by
  simp only [onBufs, k0_part23_eq_skeleton]; unfold k0_part23_skel
  simp only [Prog.lift, Prog.bind_op, Prog.bind_ret, Prog.pure_eq_ret]
  refine recv_step m ρ K c 6 (by decide) (by decide) rfl ?_
  refine recv_step m ρ K c 7 (by decide) (by decide) rfl ?_
  refine recv_step m ρ K c 8 (by decide) (by decide) rfl ?_
  refine recv_step m ρ K c 9 (by decide) (by decide) rfl ?_
  exact run_ret c (h _)

theorem part24 {v w : BitVec 32} {R : sProp 𝕄} {Q : PUnit → sProp 𝕄} (h : ∀ r, iprop(recvSt m ρ K c 14 ∗ R) ⊢ Q r) :
    iprop(recvSt m ρ K c 10 ∗ R) ⊢ Run c (onBufs (k0_part24 (F := F)) v w) Q := by
  simp only [onBufs, k0_part24_eq_skeleton]; unfold k0_part24_skel
  simp only [Prog.lift, Prog.bind_op, Prog.bind_ret, Prog.pure_eq_ret]
  refine recv_step m ρ K c 10 (by decide) (by decide) rfl ?_
  refine recv_step m ρ K c 11 (by decide) (by decide) rfl ?_
  refine recv_step m ρ K c 12 (by decide) (by decide) rfl ?_
  refine recv_step m ρ K c 13 (by decide) (by decide) rfl ?_
  exact run_ret c (h _)

theorem part26 {R : sProp 𝕄} {Q : PUnit → sProp 𝕄} (h : ∀ r, iprop(recvSt m ρ K c 20 ∗ R) ⊢ Q r) :
    iprop(recvSt m ρ K c 17 ∗ R) ⊢ Run c (onBufs (k0_part26 (F := F))) Q := by
  simp only [onBufs, k0_part26_eq_skeleton]; unfold k0_part26_skel
  simp only [Prog.lift, Prog.bind_op, Prog.bind_ret, Prog.pure_eq_ret]
  refine recv_step m ρ K c 17 (by decide) (by decide) rfl ?_
  refine recv_step m ρ K c 18 (by decide) (by decide) rfl ?_
  refine recv_step m ρ K c 19 (by decide) (by decide) rfl ?_
  exact run_ret c (h _)

theorem part27 {R : sProp 𝕄} {Q : PUnit → sProp 𝕄} (h : ∀ r, iprop(recvSt m ρ K c 24 ∗ R) ⊢ Q r) :
    iprop(recvSt m ρ K c 20 ∗ R) ⊢ Run c (onBufs (k0_part27 (F := F))) Q := by
  simp only [onBufs, k0_part27_eq_skeleton]; unfold k0_part27_skel
  simp only [Prog.lift, Prog.bind_op, Prog.bind_ret, Prog.pure_eq_ret]
  refine recv_step m ρ K c 20 (by decide) (by decide) rfl ?_
  refine recv_step m ρ K c 21 (by decide) (by decide) rfl ?_
  refine recv_step m ρ K c 22 (by decide) (by decide) rfl ?_
  refine recv_step m ρ K c 23 (by decide) (by decide) rfl ?_
  exact run_ret c (h _)

theorem part28 {R : sProp 𝕄} {Q : (Σ' _ : BitVec 32, BitVec 32) → sProp 𝕄} (h : ∀ r, iprop(recvSt m ρ K c 28 ∗ R) ⊢ Q r) :
    iprop(recvSt m ρ K c 24 ∗ R) ⊢ Run c (onBufs (k0_part28 (F := F))) Q := by
  simp only [onBufs, k0_part28_eq_skeleton]; unfold k0_part28_skel
  simp only [Prog.lift, Prog.bind_op, Prog.bind_ret, Prog.pure_eq_ret]
  refine recv_step m ρ K c 24 (by decide) (by decide) rfl ?_
  refine recv_step m ρ K c 25 (by decide) (by decide) rfl ?_
  refine recv_step m ρ K c 26 (by decide) (by decide) rfl ?_
  refine recv_step m ρ K c 27 (by decide) (by decide) rfl ?_
  exact run_ret c (h _)

theorem part29 {v w : BitVec 32} {R : sProp 𝕄} {Q : PUnit → sProp 𝕄} (h : ∀ r, iprop(recvSt m ρ K c 32 ∗ R) ⊢ Q r) :
    iprop(recvSt m ρ K c 28 ∗ R) ⊢ Run c (onBufs (k0_part29 (F := F)) v w) Q := by
  simp only [onBufs, k0_part29_eq_skeleton]; unfold k0_part29_skel
  simp only [Prog.lift, Prog.bind_op, Prog.bind_ret, Prog.pure_eq_ret]
  refine recv_step m ρ K c 28 (by decide) (by decide) rfl ?_
  refine recv_step m ρ K c 29 (by decide) (by decide) rfl ?_
  refine recv_step m ρ K c 30 (by decide) (by decide) rfl ?_
  refine recv_step m ρ K c 31 (by decide) (by decide) rfl ?_
  exact run_ret c (h _)

/-! ## Waits on the transfers' own semaphores -/

theorem part31 {R : sProp 𝕄} {Q : PUnit → sProp 𝕄} (h : ∀ r, iprop(doneSt m ρ K c 9 ∗ R) ⊢ Q r) :
    iprop(doneSt m ρ K c 4 ∗ R) ⊢ Run c (onBufs (k0_part31 (F := F))) Q := by
  simp only [onBufs, k0_part31_eq_skeleton]; unfold k0_part31_skel
  simp only [Prog.lift, Prog.bind_op, Prog.bind_ret, Prog.pure_eq_ret]
  refine done_step m ρ K c 4 (by decide) (by decide) rfl ?_
  refine done_step m ρ K c 5 (by decide) (by decide) rfl ?_
  refine done_step m ρ K c 6 (by decide) (by decide) rfl ?_
  refine done_step m ρ K c 7 (by decide) (by decide) rfl ?_
  refine done_step m ρ K c 8 (by decide) (by decide) rfl ?_
  exact run_ret c (h _)

theorem part32 {R : sProp 𝕄} {Q : PUnit → sProp 𝕄} (h : ∀ r, iprop(doneSt m ρ K c 14 ∗ R) ⊢ Q r) :
    iprop(doneSt m ρ K c 9 ∗ R) ⊢ Run c (onBufs (k0_part32 (F := F))) Q := by
  simp only [onBufs, k0_part32_eq_skeleton]; unfold k0_part32_skel
  simp only [Prog.lift, Prog.bind_op, Prog.bind_ret, Prog.pure_eq_ret]
  refine done_step m ρ K c 9 (by decide) (by decide) rfl ?_
  refine done_step m ρ K c 10 (by decide) (by decide) rfl ?_
  refine done_step m ρ K c 11 (by decide) (by decide) rfl ?_
  refine done_step m ρ K c 12 (by decide) (by decide) rfl ?_
  refine done_step m ρ K c 13 (by decide) (by decide) rfl ?_
  exact run_ret c (h _)

theorem part33 {R : sProp 𝕄} {Q : PUnit → sProp 𝕄} (h : ∀ r, iprop(doneSt m ρ K c 19 ∗ R) ⊢ Q r) :
    iprop(doneSt m ρ K c 14 ∗ R) ⊢ Run c (onBufs (k0_part33 (F := F))) Q := by
  simp only [onBufs, k0_part33_eq_skeleton]; unfold k0_part33_skel
  simp only [Prog.lift, Prog.bind_op, Prog.bind_ret, Prog.pure_eq_ret]
  refine done_step m ρ K c 14 (by decide) (by decide) rfl ?_
  refine done_step m ρ K c 15 (by decide) (by decide) rfl ?_
  refine done_step m ρ K c 16 (by decide) (by decide) rfl ?_
  refine done_step m ρ K c 17 (by decide) (by decide) rfl ?_
  refine done_step m ρ K c 18 (by decide) (by decide) rfl ?_
  exact run_ret c (h _)

theorem part34 {R : sProp 𝕄} {Q : PUnit → sProp 𝕄} (h : ∀ r, iprop(doneSt m ρ K c 24 ∗ R) ⊢ Q r) :
    iprop(doneSt m ρ K c 19 ∗ R) ⊢ Run c (onBufs (k0_part34 (F := F))) Q := by
  simp only [onBufs, k0_part34_eq_skeleton]; unfold k0_part34_skel
  simp only [Prog.lift, Prog.bind_op, Prog.bind_ret, Prog.pure_eq_ret]
  refine done_step m ρ K c 19 (by decide) (by decide) rfl ?_
  refine done_step m ρ K c 20 (by decide) (by decide) rfl ?_
  refine done_step m ρ K c 21 (by decide) (by decide) rfl ?_
  refine done_step m ρ K c 22 (by decide) (by decide) rfl ?_
  refine done_step m ρ K c 23 (by decide) (by decide) rfl ?_
  exact run_ret c (h _)

theorem part35 {R : sProp 𝕄} {Q : PUnit → sProp 𝕄} (h : ∀ r, iprop(doneSt m ρ K c 29 ∗ R) ⊢ Q r) :
    iprop(doneSt m ρ K c 24 ∗ R) ⊢ Run c (onBufs (k0_part35 (F := F))) Q := by
  simp only [onBufs, k0_part35_eq_skeleton]; unfold k0_part35_skel
  simp only [Prog.lift, Prog.bind_op, Prog.bind_ret, Prog.pure_eq_ret]
  refine done_step m ρ K c 24 (by decide) (by decide) rfl ?_
  refine done_step m ρ K c 25 (by decide) (by decide) rfl ?_
  refine done_step m ρ K c 26 (by decide) (by decide) rfl ?_
  refine done_step m ρ K c 27 (by decide) (by decide) rfl ?_
  refine done_step m ρ K c 28 (by decide) (by decide) rfl ?_
  exact run_ret c (h _)

/-! ## The parts that hold more than a run -/

theorem part1 {R : sProp 𝕄} {Q : (Σ' (_ : Dev nD) (_ : BitVec 32) (_ : Sems sig S_) (_ : BitVec 32), BitVec 32) → sProp 𝕄}
    (h : ∀ v w, iprop(sigSt m ρ K c 6 ∗ R) ⊢ Q ⟨c, myPos c, barSems, v, w⟩) :
    iprop(sigSt m ρ K c 1 ∗ R) ⊢ Run c (onBufs (k0_part1 (F := F))) Q := by
  simp only [onBufs, k0_part1_eq_skeleton]; unfold k0_part1_skel
  simp only [Prog.lift, semSignalWord, Prog.bind_op, Prog.bind_ret, Prog.pure_eq_ret]
  rw [Run, wp_deviceId]
  refine signal_step m ρ K c 1 (by decide) (by decide) (placesOn _ (k0_dev1_eq c)) rfl ?_
  refine signal_step m ρ K c 2 (by decide) (by decide) (placesOn _ (k0_dev2_eq c)) rfl ?_
  refine signal_step m ρ K c 3 (by decide) (by decide) (placesOn _ (k0_dev3_eq c)) rfl ?_
  refine signal_step m ρ K c 4 (by decide) (by decide) (placesOn _ (k0_dev4_eq c)) rfl ?_
  refine signal_step m ρ K c 5 (by decide) (by decide) (placesOn _ (k0_dev5_eq c)) rfl ?_
  exact run_ret c (h _ _)

theorem part19 {v : BitVec 32} {R : sProp 𝕄} {Q : (Σ' (_ : IVec S1x768 32) (_ : IVec S1x768 32), BitVec 32) → sProp 𝕄}
    (h : iprop(sendSt m ρ K c 32 ∗ R) ⊢ Q ⟨iota .tc S1x768 32 [1] iota_S1x768_d1_w32, k0_pay10 v, 32#32⟩) :
    iprop(sendSt m ρ K c 30 ∗ R) ⊢ Run c (onBufs (k0_part19 (F := F)) c v) Q := by
  simp only [onBufs, k0_part19_eq_skeleton]; unfold k0_part19_skel
  simp only [Prog.lift, Prog.bind_op, Prog.bind_ret, Prog.pure_eq_ret]
  refine send_step m ρ K c 30 (by decide) (by decide) (placesOn _ (k0_dev61_eq c)) rfl rfl ?_
  refine send_step m ρ K c 31 (by decide) (by decide) (placesOn _ (k0_dev62_eq c)) rfl rfl ?_
  exact run_ret c h

theorem part20 {P : sProp 𝕄} {a b : IVec S1x768 32} {w : BitVec 32} {Q : (Σ' _ : IVec S1x768 32, BitVec 32) → sProp 𝕄}
    (h : P ⊢ Q ⟨k0_pay11 a b w, 6#32⟩) : P ⊢ Run c (onBufs (k0_part20 (F := F)) a b w) Q := by
  simp only [onBufs, k0_part20_eq_skeleton]; unfold k0_part20_skel
  simp only [Prog.pure_eq_ret]
  exact run_ret c h

theorem part21 {v : IVec S1024x1 32} {a : FVec F S1024x1 .f32} {b d : IVec S1x768 32} {w : BitVec 32} {R : sProp 𝕄} {Q : FVec F S1024x768 .bf16 → sProp 𝕄}
    (h : iprop(recvSt m ρ K c 2 ∗ R) ⊢ Q (k0_pay12 v a b d w)) :
    iprop(recvSt m ρ K c 1 ∗ R) ⊢ Run c (onBufs (k0_part21 (F := F)) v a b d w) Q := by
  simp only [onBufs, k0_part21_eq_skeleton]; unfold k0_part21_skel
  simp only [Prog.lift, Prog.bind_op, Prog.bind_ret, Prog.pure_eq_ret]
  refine recv_step m ρ K c 1 (by decide) (by decide) rfl ?_
  exact run_ret c h

end Cert.Exchange

end
-- ==== Proof.Body.lean ====
/-
# The kernel on one device

The remaining parts of the program — the loads, the block computed, the barrier, the two products — and the whole program
from what a device starts with to what it ends with.
-/
module

public import proofs.«01_k».proof.Proof.Parts

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Option (Fin 64) → ℕ)

variable (c : Dev nD)

/-! ## What else a device holds -/

/-- A whole buffer of device `c`. -/
abbrev held (b : Ref sig .tc) (X : b.ty.Contents (Elt F)) : sProp 𝕄 := (((c : Dev nD) : Thread nD τ).loc b) ↦{fullShare} X

/-- The staged inputs. -/
def inputs : sProp 𝕄 :=
  iprop(held c cc0_stg0_0 (xstg m ρ c) ∗ held c cc0_stg1_0 (rstg m ρ c) ∗ held c cc0_stg2_0 (istg m ρ c) ∗ held c cc0_stg3_0 (wstg m ρ c))

/-- Before the barrier: the barrier's place and credit, the device's own slot, the duties of its transfers, what its later
    waits need, the inputs and the output's buffer. -/
def restA : sProp 𝕄 :=
  iprop(atPos EX (barCell c) 0 ∅ 0 ∗ cred (tallyAt (barCell c) () 31) ∗ (∃ f, gPts c (slotSet 0) fullShare f)
    ∗ (bigSep (Ge 1) fun d => iprop(dutyTok EX (sendCell c d) 0 0 ∗ dutyTok EX (recvCell (c + d) d) 0 0))
    ∗ (bigSep (Ge 1) fun d => recvIn c d) ∗ (bigSep (Ge 1) fun d => atPos EX (sendCell c d) 0 ∅ 0)
    ∗ inputs m ρ c ∗ ∃ f, held c cc0_stg4_0 f)

/-- While the transfers are started. -/
def restB : sProp 𝕄 :=
  iprop(semVal (barCell c) 0 ∗ gPts c (slotSet 0) (leafOf 0) (gath m ρ c)
    ∗ (bigSep (Ge 1) fun d => recvIn c d) ∗ (bigSep (Ge 1) fun d => atPos EX (sendCell c d) 0 ∅ 0)
    ∗ inputs m ρ c ∗ ∃ f, held c cc0_stg4_0 f)

/-- While the landings are waited for; the output's buffer held as `o` says. -/
def restC (o : sProp 𝕄) : sProp 𝕄 :=
  iprop(semVal (barCell c) 0 ∗ gPts c (slotSet 0) (leafOf 0) (gath m ρ c) ∗ (bigSep (Ge 1) fun d => doneIn c d) ∗ inputs m ρ c ∗ o)

/-- While the transfers' own semaphores are waited for: all slots but 0 have landed. -/
def restD (o : sProp 𝕄) : sProp 𝕄 :=
  iprop(semVal (barCell c) 0 ∗ gPts c (slotSet 0) (leafOf 0) (gath m ρ c) ∗ (bigSep (Ge 1) fun d => recvOut m ρ c d) ∗ inputs m ρ c ∗ o)

/-! ## Shares of slot 0, and rows of several slots -/

omit [FloatOps F] in
theorem eq_of {P Q : sProp 𝕄} (h : P ⊢ Q) (h' : Q ⊢ P) : P = Q := BI.Entails.antisymm h h'

omit [FloatOps F] in
theorem gPts_leaves (S : Finset S768x512.Idx) (f : (cc0_scratch0 : Ref sig .tc).ty.Contents (Elt F)) :
    (gPts c S fullShare f : sProp 𝕄) = iprop(gPts c S (leafOf 0) f ∗ bigSep (Ge 1) fun d => gPts c S (leafOf d) f) := by
  unfold gPts
  rw [Ge_one]
  exact (ShareLeaves.pointsTo_leaves (ℓ := (c : Thread nD τ).loc cc0_scratch0) S f 5 fullShare).trans (bigSep_erase (Finset.mem_univ (0 : Dev nD)))

/-- The rows of slot 0 and of the slots of `D`, at the least share held of them all. -/
theorem rows_eq (D : Finset (Dev nD)) (h0 : (0 : Dev nD) ∉ D) :
    iprop(gPts c (slotSet 0) (leafOf 0) (gath m ρ c) ∗ bigSep D fun d => recvOut m ρ c d)
      = (iprop(gPts c ((insert 0 D).biUnion slotSet) (leafOf 0) (gath m ρ c)
          ∗ bigSep D fun d => iprop(semVal (recvCell c d) 0 ∗ bigSep (Ge 1) fun e => gPts c (slotSet d) (leafOf e) (gath m ρ c))) : sProp 𝕄) := by
  have e1 : (gPts c ((insert 0 D).biUnion slotSet) (leafOf 0) (gath m ρ c) : sProp 𝕄)
      = iprop(gPts c (slotSet 0) (leafOf 0) (gath m ρ c) ∗ bigSep D fun d => gPts c (slotSet d) (leafOf 0) (gath m ρ c)) := by
    unfold gPts
    exact (pointsTo_biUnion (ℓ := (c : Thread nD τ).loc cc0_scratch0) (insert 0 D) slotSet (fun t _ t' _ h => slot_disjoint t t' h)).trans
      (bigSep_insert h0)
  have e2 : (bigSep D fun d => recvOut m ρ c d) = iprop((bigSep D fun d => gPts c (slotSet d) (leafOf 0) (gath m ρ c))
      ∗ bigSep D fun d => iprop(semVal (recvCell c d) 0 ∗ bigSep (Ge 1) fun e => gPts c (slotSet d) (leafOf e) (gath m ρ c))) := by
    rw [← bigSep_sep']
    refine bigSep_congr fun d _ => ?_
    unfold recvOut
    rw [gPts_leaves c]
    refine eq_of ?_ ?_
    · iintro ⟨H1, H2, H3⟩; isplitl [H2]; · iexact H2
      isplitl [H1] <;> iassumption
    · iintro ⟨H2, H1, H3⟩; isplitl [H1]; · iexact H1
      isplitl [H2] <;> iassumption
  rw [e1, e2]
  refine eq_of ?_ ?_
  · iintro ⟨H1, H2, H3⟩; isplitr [H3]
    · isplitl [H1] <;> iassumption
    · iexact H3
  · iintro ⟨⟨H1, H2⟩, H3⟩; isplitl [H1]; · iexact H1
    isplitl [H2] <;> iassumption

/-- The rows `n .. n + 383` of the gather buffer lie in the slots that hold them. -/
theorem rows_sub (n : ℕ) (D : Finset (Dev nD)) (h : ∀ a, (![n, 0] : Fin 2 → Nat) a + S384x512.size a ≤ S768x512.size a)
    (hD : ∀ d : Dev nD, 24 * d.val < n + 384 → n < 24 * d.val + 24 → d ∈ D) :
    (gM.access (Rect.unit (s := S768x512) ![n, 0] S384x512.size h)).set ⊆ D.biUnion slotSet := by
  intro i hi
  have hi' : i ∈ (Rect.unit (s := S768x512) ![n, 0] S384x512.size h).set := by rwa [View.set_slice_whole] at hi
  rw [Rect.mem_set_unit] at hi'
  have h0 : n ≤ (i 0).val ∧ (i 0).val < n + 384 := hi' 0
  have h7 : (i 0).val < 768 := (i 0).isLt
  refine Finset.mem_biUnion.mpr ⟨⟨(i 0).val / 24, by show _ < 32; omega⟩, hD _ ?_ ?_, (mem_slotSet _ _).mpr ⟨?_, ?_⟩⟩ <;>
    · first | show 24 * ((i 0).val / 24) < _ | show _ < 24 * ((i 0).val / 24) + 24 | show 24 * ((i 0).val / 24) ≤ _
      omega

/-! ## The parts with loads and stores -/

omit [FloatOps F] in
theorem hz : (![0, 0] : Fin 2 → Nat) = fun _ => 0 := funext fun a => by fin_cases a <;> rfl

theorem read_idx (f : (cc0_stg2_0 : Ref sig .tc).ty.Contents (Elt F)) :
    (Memref.whole cc0_stg2_0 : Memref sig .tc .vmem S1024x1 .i32).view.readAt (Elt F)
      (Rect.unit (s := S1024x1) ![0, 0] S1024x1.size inb_S1024x1_S1024x1_0_0).toLoadRect f = f :=
  Memref.readAt_unit_zero (Elt F) cc0_stg2_0 hz _ f
theorem read_x (f : (cc0_stg0_0 : Ref sig .tc).ty.Contents (Elt F)) :
    (Memref.whole cc0_stg0_0 : Memref sig .tc .vmem S1024x256 .f32).view.readAt (Elt F)
      (Rect.unit (s := S1024x256) ![0, 0] S1024x256.size inb_S1024x256_S1024x256_0_0).toLoadRect f = f :=
  Memref.readAt_unit_zero (Elt F) cc0_stg0_0 hz _ f
theorem read_out (f : (cc0_stg4_0 : Ref sig .tc).ty.Contents (Elt F)) :
    (Memref.whole cc0_stg4_0 : Memref sig .tc .vmem S1024x512 .f32).view.readAt (Elt F)
      (Rect.unit (s := S1024x512) ![0, 0] S1024x512.size inb_S1024x512_S1024x512_0_0).toLoadRect f = f :=
  Memref.readAt_unit_zero (Elt F) cc0_stg4_0 hz _ f
theorem write_out (f w : (cc0_stg4_0 : Ref sig .tc).ty.Contents (Elt F)) :
    ((Memref.whole cc0_stg4_0 : Memref sig .tc .vmem S1024x512 .f32).access
      (Rect.unit (s := S1024x512) ![0, 0] S1024x512.size inb_S1024x512_S1024x512_0_0) : View sig .tc _ _ _).write (Elt F) f w Finset.univ = w :=
  Memref.write_access_unit_zero_univ (Elt F) cc0_stg4_0 hz _ f w

theorem part6 {v w : BitVec 32}
    {Q : (Σ' (_ : IVec S1024x1 32) (_ : FVec F S1024x1 .f32) (_ : IVec S1x24 32) (_ : BitVec 32) (_ : IVec S1x24 32) (_ : IVec S1x24 1), IVec S1x24 32) → sProp 𝕄}
    (h : iprop(sigSt m ρ K c 32 ∗ restA m ρ c) ⊢ Q ⟨k0_pay1 (istg m ρ c), k0_pay2 (istg m ρ c), iota .tc S1x24 32 [1] iota_S1x24_d1_w32,
      Scalar.muli (myPos c) 4#32, k0_pay3, k0_pay4, k0_pay5⟩) :
    iprop(sigSt m ρ K c 30 ∗ restA m ρ c) ⊢ Run c (onBufs (k0_part6 (F := F)) c (myPos c) barSems v w) Q := by
  simp only [onBufs, k0_part6_eq_skeleton]; unfold k0_part6_skel
  simp only [semSignalWord, Prog.lift, Prog.bind_op, Prog.bind_ret, Prog.pure_eq_ret]
  refine signal_step m ρ K c 30 (by decide) (by decide) (placesOn _ (k0_dev30_eq c)) rfl ?_
  refine signal_step m ρ K c 31 (by decide) (by decide) (placesOn _ (k0_dev31_eq c)) rfl ?_
  unfold restA inputs
  iintro ⟨HS, H1, H2, H3, H4, H5, H6, ⟨I0, I1, I2, I3⟩, HO⟩
  iapply (wp_load 𝒱₀ (c : Thread nD τ) none Set.univ (m := (Memref.whole cc0_stg2_0 : Memref sig .tc .vmem S1024x1 .i32)) (Finset.subset_univ _)) $$ I2
  iintro I2
  rw [read_idx]
  iapply (run_ret c h)
  unfold restA inputs
  isplitl [HS]; · iexact HS
  isplitl [H1]; · iexact H1
  isplitl [H2]; · iexact H2
  isplitl [H3]; · iexact H3
  isplitl [H4]; · iexact H4
  isplitl [H5]; · iexact H5
  isplitl [H6]; · iexact H6
  isplitr [HO]
  · isplitl [I0]; · iexact I0
    isplitl [I1]; · iexact I1
    isplitl [I2] <;> iassumption
  iexact HO

theorem part7 {a : IVec S1024x1 32} {b : FVec F S1024x1 .f32} {d : IVec S1x24 32} {e : BitVec 32} {f : IVec S1x24 32} {g : IVec S1x24 1} {i : IVec S1x24 32}
    {Q : (Σ' (_ : FVec F S24x256 .f32) (_ : FVec F S6x512 .f32), FVec F S6x256 .f32) → sProp 𝕄}
    (h : iprop(sigSt m ρ K c 32 ∗ restA m ρ c) ⊢ Q ⟨k0_pay6 a b d e f g i (xstg m ρ c),
      k0_pay7 a b d e f g i (xstg m ρ c) (wLoad (wstg m ρ c) 0 inb_S4x256x512_S1x256x512_0_0_0), k0_pay8 a b d e f g i (xstg m ρ c)⟩) :
    iprop(sigSt m ρ K c 32 ∗ restA m ρ c) ⊢ Run c (onBufs (k0_part7 (F := F)) a b d e f g i) Q := by
  simp only [onBufs, k0_part7_eq_skeleton]; unfold k0_part7_skel
  simp only [Prog.lift, Prog.bind_op, Prog.bind_ret, Prog.pure_eq_ret]
  unfold restA inputs
  iintro ⟨HS, H1, H2, H3, H4, H5, H6, ⟨I0, I1, I2, I3⟩, HO⟩
  iapply (wp_load 𝒱₀ (c : Thread nD τ) none Set.univ (m := (Memref.whole cc0_stg0_0 : Memref sig .tc .vmem S1024x256 .f32)) (Finset.subset_univ _)) $$ I0
  iintro I0
  iapply (wp_load 𝒱₀ (c : Thread nD τ) none Set.univ (m := (Memref.whole cc0_stg3_0 : Memref sig .tc .vmem S4x256x512 .f32)) (Finset.subset_univ _)) $$ I3
  iintro I3
  rw [read_x]
  iapply (run_ret c h)
  unfold restA inputs
  isplitl [HS]; · iexact HS
  isplitl [H1]; · iexact H1
  isplitl [H2]; · iexact H2
  isplitl [H3]; · iexact H3
  isplitl [H4]; · iexact H4
  isplitl [H5]; · iexact H5
  isplitl [H6]; · iexact H6
  isplitr [HO]
  · isplitl [I0]; · iexact I0
    isplitl [I1]; · iexact I1
    isplitl [I2] <;> iassumption
  iexact HO

theorem Obar_last : (Obar c 32 : CellTallies nD τ sig Unit) = 0 := by unfold Obar; rw [Ge_last, Finset.sum_empty]
theorem Orecv_last : (Orecv c 32 : CellTallies nD τ sig Unit) = 0 := by unfold Orecv; rw [Ge_last, Finset.sum_empty]

theorem sub_shift0 (c : Dev nD) : c - ⟨0, zlt32⟩ = c := by revert c; decide

/-- The device's own slot once its block is stored, cut into the shares its transfers read with. -/
theorem own_stored (f : (cc0_scratch0 : Ref sig .tc).ty.Contents (Elt F)) (w : Vec F S24x512 .bf16) (hw : w = yc m ρ c) :
    (((gM.access (slotR 0 zlt32)).loc (c : Thread nD τ)) ↦[slotSet 0]{fullShare} ((gM.access (slotR 0 zlt32)).write (Elt F) f w Finset.univ) : sProp 𝕄)
      = iprop(gPts c (slotSet 0) (leafOf 0) (gath m ρ c) ∗ bigSep (Ge 1) fun d => gPts c (slotSet 0) (leafOf d) (gath m ρ c)) := by
  rw [← gPts_leaves c]
  unfold gPts
  refine pointsTo_congr (ℓ := (c : Thread nD τ).loc cc0_scratch0) fun i hi => ?_
  exact landed_eq m ρ c 0 zlt32 f w (hw.trans (congrArg (yc m ρ) (sub_shift0 c).symm)) i hi

theorem send_one (d : Dev nD) : iprop((dutyTok EX (sendCell c d) 0 0 ∗ dutyTok EX (recvCell (c + d) d) 0 0) ∗ (∃ f, gPts (c + d) (slotSet d) fullShare f)
    ∗ gPts c (slotSet 0) (leafOf d) (gath m ρ c)) ⊢ sendIn m ρ c d := by
  unfold sendIn
  iintro ⟨⟨H1, H2⟩, H3, H4⟩
  isplitl [H1]; · iexact H1
  isplitl [H2]; · iexact H2
  isplitl [H3] <;> iassumption

/-- What the transfers need, put together. -/
theorem send_ready :
    iprop((bigSep (Ge 1) fun d => iprop(dutyTok EX (sendCell c d) 0 0 ∗ dutyTok EX (recvCell (c + d) d) 0 0))
        ∗ (bigSep (Ge 1) fun e => iprop(∃ f, gPts (c + e) (slotSet e) fullShare f))
        ∗ bigSep (Ge 1) fun d => gPts c (slotSet 0) (leafOf d) (gath m ρ c))
      ⊢ bigSep (Ge 1) fun d => sendIn m ρ c d := by
  rw [← bigSep_sep', ← bigSep_sep']
  exact bigSep_mono fun d _ => send_one m ρ c d

theorem slot_load (n : ℕ) (h : n < 32) : (gM.access (slotR n h)).set ⊆ slotSet ⟨n, h⟩ := by
  rw [View.set_slice_whole]; exact Finset.Subset.refl _
theorem slot_store (n : ℕ) (h : n < 32) : (gM.access (slotR n h)).setOn Finset.univ ⊆ slotSet ⟨n, h⟩ := slot_load n h

theorem part8 {v : BitVec 32} {v198 : FVec F S24x256 .f32} {v202 : FVec F S6x512 .f32} {v203 : FVec F S6x256 .f32}
    (hy : k0_pay9 v198 v202 v203 (wLoad (wstg m ρ c) 1 inb_S4x256x512_S1x256x512_1_0_0) (wLoad (wstg m ρ c) 2 inb_S4x256x512_S1x256x512_2_0_0)
      (wLoad (wstg m ρ c) 3 inb_S4x256x512_S1x256x512_3_0_0) = yc m ρ c)
    {Q : BitVec 32 → sProp 𝕄} (h : ∀ r, iprop(sendSt m ρ K c 2 ∗ restB m ρ c) ⊢ Q r) :
    iprop(sigSt m ρ K c 32 ∗ restA m ρ c) ⊢ Run c (onBufs (k0_part8 (F := F)) c v barSems v198 v202 v203) Q := by
  simp only [onBufs, k0_part8_eq_skeleton]; unfold k0_part8_skel
  simp only [Prog.lift, semWaitWord, Prog.bind_op, Prog.bind_ret, Prog.pure_eq_ret]
  unfold sigSt restA inputs
  rw [Obar_last, add_zero]
  iintro ⟨⟨#HK, Ho, -⟩, H1, H2, ⟨%f0, H3⟩, H4, H5, H6, ⟨I0, I1, I2, I3⟩, HO⟩
  iapply (wp_load 𝒱₀ (c : Thread nD τ) none Set.univ (m := (Memref.whole cc0_stg3_0 : Memref sig .tc .vmem S4x256x512 .f32)) (Finset.subset_univ _)) $$ I3
  iintro I3
  iapply (wp_load 𝒱₀ (c : Thread nD τ) none Set.univ (m := (Memref.whole cc0_stg3_0 : Memref sig .tc .vmem S4x256x512 .f32)) (Finset.subset_univ _)) $$ I3
  iintro I3
  iapply (wp_load 𝒱₀ (c : Thread nD τ) none Set.univ (m := (Memref.whole cc0_stg3_0 : Memref sig .tc .vmem S4x256x512 .f32)) (Finset.subset_univ _)) $$ I3
  iintro I3
  unfold gPts
  iapply (wp_load_rect 𝒱₀ (c : Thread nD τ) none Set.univ (m := gM) (r := slotR 0 zlt32) (S := slotSet 0) (slot_load 0 zlt32)) $$ H3
  iintro H3
  iapply (wp_store 𝒱₀ (c : Thread nD τ) none Set.univ (m := gM) (r := slotR 0 zlt32) (Mk := Finset.univ) (S := slotSet 0) (slot_store 0 zlt32)) $$ H3
  iintro H3
  ihave H3 := (Entails.of_eq (own_stored m ρ c f0 _ hy)) $$ H3
  icases H3 with ⟨H30, H3⟩
  iapply (barrier_step m ρ K c (k' := (31#32).toNat) rfl
    (R := iprop((gPts c (slotSet 0) (leafOf 0) (gath m ρ c) ∗ bigSep (Ge 1) fun d => gPts c (slotSet 0) (leafOf d) (gath m ρ c))
      ∗ (bigSep (Ge 1) fun d => iprop(dutyTok EX (sendCell c d) 0 0 ∗ dutyTok EX (recvCell (c + d) d) 0 0))
      ∗ (bigSep (Ge 1) fun d => recvIn c d) ∗ (bigSep (Ge 1) fun d => atPos EX (sendCell c d) 0 ∅ 0) ∗ inputs m ρ c ∗ ∃ f, held c cc0_stg4_0 f)) ?_)
  · refine .trans (Q := iprop(sendSt m ρ K c 1 ∗ restB m ρ c)) ?_ ?_
    · unfold sendSt restB
      rw [Bt_first, bigSep_empty]
      iintro ⟨⟨#HK, Ho, Hz, Hs⟩, ⟨L0, Ls⟩, HT, HR, HA, HI, HO⟩
      isplitr [L0 HR HA HI HO Hz]
      · isplitr; · iexact HK
        isplitl [Ho]; · iexact Ho
        isplitl [Hs Ls HT]
        · iapply (send_ready m ρ c)
          isplitl [HT]; · iexact HT
          isplitl [Hs] <;> iassumption
        · iempintro
      · isplitl [Hz]; · iexact Hz
        isplitl [L0]; · iexact L0
        isplitl [HR]; · iexact HR
        isplitl [HA]; · iexact HA
        isplitl [HI] <;> iassumption
    · refine send_step m ρ K c 1 (by decide) (by decide) (placesOn _ (k0_dev32_eq c)) rfl rfl ?_
      exact run_ret c (h _)
  · isplitl [Ho H1 H2]
    · isplitr; · iexact HK
      isplitl [Ho]; · iexact Ho
      isplitl [H1] <;> iassumption
    isplitl [H30 H3]
    · isplitl [H30] <;> iassumption
    isplitl [H4]; · iexact H4
    isplitl [H5]; · iexact H5
    isplitl [H6]; · iexact H6
    isplitr [HO]
    · unfold inputs
      isplitl [I0]; · iexact I0
      isplitl [I1]; · iexact I1
      isplitl [I2] <;> iassumption
    iexact HO

/-! ## The two products -/

/-- The rows `n .. n + 383` of the gather buffer. -/
abbrev rowsAt (n : ℕ) (h : ∀ a, (![n, 0] : Fin 2 → Nat) a + S384x512.size a ≤ S768x512.size a) : Vec F S384x512 .bf16 :=
  (gM.access (Rect.unit (s := S768x512) ![n, 0] S384x512.size h)).read (Elt F) (gath m ρ c)

/-- The product over the first half of the rows, by the matrix `P`. -/
abbrev halfAt (P : FVec F S1024x768 .bf16) : (cc0_stg4_0 : Ref sig .tc).ty.Contents (Elt F) := k0_pay13 P (rowsAt m ρ c 0 inb_S768x512_S384x512_0_0)
/-- The whole product. -/
abbrev fullAt (P : FVec F S1024x768 .bf16) : (cc0_stg4_0 : Ref sig .tc).ty.Contents (Elt F) :=
  k0_pay14 P (halfAt m ρ c P) (rowsAt m ρ c 384 inb_S768x512_S384x512_384_0)

theorem not_mem_Bt_zero (n : ℕ) : (0 : Dev nD) ∉ Bt n := by
  rw [mem_Bt]; rintro ⟨h, -⟩; exact absurd h (by decide)

theorem sub16 : (gM.access (Rect.unit (s := S768x512) ![0, 0] S384x512.size inb_S768x512_S384x512_0_0)).set ⊆ (insert 0 (Bt 16)).biUnion slotSet :=
  rows_sub 0 _ _ fun d h _ => by
    rw [Finset.mem_insert, mem_Bt]
    by_cases hd : d = 0
    · exact Or.inl hd
    · exact Or.inr ⟨Nat.pos_of_ne_zero fun e => hd (Fin.ext e), by omega⟩
theorem sub32 : (gM.access (Rect.unit (s := S768x512) ![384, 0] S384x512.size inb_S768x512_S384x512_384_0)).set ⊆ (insert 0 (Bt 32)).biUnion slotSet :=
  rows_sub 384 _ _ fun d h h' => by
    rw [Finset.mem_insert, mem_Bt]
    exact Or.inr ⟨by omega, lt32 d⟩

theorem half_step (P : FVec F S1024x768 .bf16)
    {hl hl' hx hm} {α : Type} {k : PUnit → Prog (TpuEff nD τ sig (Elt F) Λ₀ .tc) α} {Q : α → sProp 𝕄}
    (h : iprop(recvSt m ρ K c 16 ∗ restC m ρ c (held c cc0_stg4_0 (halfAt m ρ c P))) ⊢ Run c (k ⟨⟩) Q) :
    iprop(recvSt m ρ K c 16 ∗ restC m ρ c iprop(∃ f, held c cc0_stg4_0 f)) ⊢
      Run c (.op (.load gM (Rect.unit (s := S768x512) ![0, 0] S384x512.size inb_S768x512_S384x512_0_0).toLoadRect hl) fun v =>
        .op (.load (Memref.whole cc0_stg4_0 : Memref sig .tc .vmem S1024x512 .f32) (Rect.unit (s := S1024x512) ![0, 0] S1024x512.size inb_S1024x512_S1024x512_0_0).toLoadRect hl') fun _ =>
        .op (.store (Memref.whole cc0_stg4_0 : Memref sig .tc .vmem S1024x512 .f32) (Rect.unit (s := S1024x512) ![0, 0] S1024x512.size inb_S1024x512_S1024x512_0_0)
          (k0_pay13 P v) Finset.univ hx hm) k) Q := by
  unfold recvSt restC
  iintro ⟨⟨#HK, Ho, Hin, Hout⟩, Hz, H0, HD, HI, ⟨%f, HO⟩⟩
  ihave Hr := (Entails.of_eq (rows_eq m ρ c (Bt 16) (not_mem_Bt_zero 16))) $$ [H0 Hout]
  · isplitl [H0] <;> iassumption
  icases Hr with ⟨Hr, Hr'⟩
  unfold gPts
  iapply (wp_load_rect 𝒱₀ (c : Thread nD τ) none Set.univ (m := gM) (r := Rect.unit (s := S768x512) ![0, 0] S384x512.size inb_S768x512_S384x512_0_0)
    (S := (insert 0 (Bt 16)).biUnion slotSet) sub16) $$ Hr
  iintro Hr
  iapply (wp_load 𝒱₀ (c : Thread nD τ) none Set.univ (m := (Memref.whole cc0_stg4_0 : Memref sig .tc .vmem S1024x512 .f32)) (Finset.subset_univ _)) $$ HO
  iintro HO
  iapply (wp_store 𝒱₀ (c : Thread nD τ) none Set.univ (m := (Memref.whole cc0_stg4_0 : Memref sig .tc .vmem S1024x512 .f32))
    (r := Rect.unit (s := S1024x512) ![0, 0] S1024x512.size inb_S1024x512_S1024x512_0_0) (Mk := Finset.univ) (Finset.subset_univ _)) $$ HO
  iintro HO
  rw [write_out]
  ihave Hr := (Entails.of_eq (rows_eq m ρ c (Bt 16) (not_mem_Bt_zero 16)).symm) $$ [Hr Hr']
  · unfold gPts; isplitl [Hr] <;> iassumption
  icases Hr with ⟨H0, Hout⟩
  iapply h
  unfold recvSt restC gPts
  isplitl [Ho Hin Hout]
  · isplitr; · iexact HK
    isplitl [Ho]; · iexact Ho
    isplitl [Hin] <;> iassumption
  isplitl [Hz]; · iexact Hz
  isplitl [H0]; · iexact H0
  isplitl [HD]; · iexact HD
  isplitl [HI] <;> iassumption

theorem full_step (P : FVec F S1024x768 .bf16)
    {hl hl' hl'' hx hm} {α : Type} {k : PUnit → Prog (TpuEff nD τ sig (Elt F) Λ₀ .tc) α} {Q : α → sProp 𝕄}
    (h : iprop(recvSt m ρ K c 32 ∗ restC m ρ c (held c cc0_stg4_0 (fullAt m ρ c P))) ⊢ Run c (k ⟨⟩) Q) :
    iprop(recvSt m ρ K c 32 ∗ restC m ρ c (held c cc0_stg4_0 (halfAt m ρ c P))) ⊢
      Run c (.op (.load (Memref.whole cc0_stg4_0 : Memref sig .tc .vmem S1024x512 .f32) (Rect.unit (s := S1024x512) ![0, 0] S1024x512.size inb_S1024x512_S1024x512_0_0).toLoadRect hl') fun u =>
        .op (.load gM (Rect.unit (s := S768x512) ![384, 0] S384x512.size inb_S768x512_S384x512_384_0).toLoadRect hl) fun v =>
        .op (.load (Memref.whole cc0_stg4_0 : Memref sig .tc .vmem S1024x512 .f32) (Rect.unit (s := S1024x512) ![0, 0] S1024x512.size inb_S1024x512_S1024x512_0_0).toLoadRect hl'') fun _ =>
        .op (.store (Memref.whole cc0_stg4_0 : Memref sig .tc .vmem S1024x512 .f32) (Rect.unit (s := S1024x512) ![0, 0] S1024x512.size inb_S1024x512_S1024x512_0_0)
          (k0_pay14 P u v) Finset.univ hx hm) k) Q := by
  unfold recvSt restC
  iintro ⟨⟨#HK, Ho, Hin, Hout⟩, Hz, H0, HD, HI, HO⟩
  ihave Hr := (Entails.of_eq (rows_eq m ρ c (Bt 32) (not_mem_Bt_zero 32))) $$ [H0 Hout]
  · isplitl [H0] <;> iassumption
  icases Hr with ⟨Hr, Hr'⟩
  unfold gPts
  iapply (wp_load 𝒱₀ (c : Thread nD τ) none Set.univ (m := (Memref.whole cc0_stg4_0 : Memref sig .tc .vmem S1024x512 .f32)) (Finset.subset_univ _)) $$ HO
  iintro HO
  iapply (wp_load_rect 𝒱₀ (c : Thread nD τ) none Set.univ (m := gM) (r := Rect.unit (s := S768x512) ![384, 0] S384x512.size inb_S768x512_S384x512_384_0)
    (S := (insert 0 (Bt 32)).biUnion slotSet) sub32) $$ Hr
  iintro Hr
  iapply (wp_load 𝒱₀ (c : Thread nD τ) none Set.univ (m := (Memref.whole cc0_stg4_0 : Memref sig .tc .vmem S1024x512 .f32)) (Finset.subset_univ _)) $$ HO
  iintro HO
  iapply (wp_store 𝒱₀ (c : Thread nD τ) none Set.univ (m := (Memref.whole cc0_stg4_0 : Memref sig .tc .vmem S1024x512 .f32))
    (r := Rect.unit (s := S1024x512) ![0, 0] S1024x512.size inb_S1024x512_S1024x512_0_0) (Mk := Finset.univ) (Finset.subset_univ _)) $$ HO
  iintro HO
  rw [write_out, read_out]
  ihave Hr := (Entails.of_eq (rows_eq m ρ c (Bt 32) (not_mem_Bt_zero 32)).symm) $$ [Hr Hr']
  · unfold gPts; isplitl [Hr] <;> iassumption
  icases Hr with ⟨H0, Hout⟩
  iapply h
  unfold recvSt restC gPts
  isplitl [Ho Hin Hout]
  · isplitr; · iexact HK
    isplitl [Ho]; · iexact Ho
    isplitl [Hin] <;> iassumption
  isplitl [Hz]; · iexact Hz
  isplitl [H0]; · iexact H0
  isplitl [HD]; · iexact HD
  isplitl [HI] <;> iassumption

theorem part25 (P : FVec F S1024x768 .bf16) {Q : PUnit → sProp 𝕄}
    (h : ∀ r, iprop(recvSt m ρ K c 17 ∗ restC m ρ c (held c cc0_stg4_0 (halfAt m ρ c P))) ⊢ Q r) :
    iprop(recvSt m ρ K c 14 ∗ restC m ρ c iprop(∃ f, held c cc0_stg4_0 f)) ⊢ Run c (onBufs (k0_part25 (F := F)) P) Q := by
  simp only [onBufs, k0_part25_eq_skeleton]; unfold k0_part25_skel
  simp only [Prog.lift, Prog.bind_op, Prog.bind_ret, Prog.pure_eq_ret]
  refine recv_step m ρ K c 14 (by decide) (by decide) rfl ?_
  refine recv_step m ρ K c 15 (by decide) (by decide) rfl ?_
  refine half_step m ρ K c P ?_
  refine recv_step m ρ K c 16 (by decide) (by decide) rfl ?_
  exact run_ret c (h _)

/-- All landings waited for, the transfers' own semaphores are next. -/
theorem recv_to_done (o : sProp 𝕄) : iprop(recvSt m ρ K c 32 ∗ restC m ρ c o) ⊢ iprop(doneSt m ρ K c 1 ∗ restD m ρ c o) := by
  unfold recvSt restC doneSt restD
  rw [Ge_last, Bt_last, Bt_first, bigSep_empty]
  iintro ⟨⟨#HK, Ho, -, Hout⟩, Hz, H0, HD, HI, HO⟩
  isplitl [Ho HD]
  · isplitr; · iexact HK
    isplitl [Ho]; · iexact Ho
    isplitl [HD]; · iexact HD
    rw [bigSep_empty]; iempintro
  isplitl [Hz]; · iexact Hz
  isplitl [H0]; · iexact H0
  isplitl [Hout]; · iexact Hout
  isplitl [HI] <;> iassumption

theorem part30 (P : FVec F S1024x768 .bf16) {Q : PUnit → sProp 𝕄}
    (h : ∀ r, iprop(doneSt m ρ K c 4 ∗ restD m ρ c (held c cc0_stg4_0 (fullAt m ρ c P))) ⊢ Q r) :
    iprop(recvSt m ρ K c 32 ∗ restC m ρ c (held c cc0_stg4_0 (halfAt m ρ c P))) ⊢ Run c (onBufs (k0_part30 (F := F)) P) Q := by
  simp only [onBufs, k0_part30_eq_skeleton]; unfold k0_part30_skel
  simp only [Prog.lift, Prog.bind_op, Prog.bind_ret, Prog.pure_eq_ret]
  refine full_step m ρ K c P ?_
  refine (recv_to_done m ρ K c _).trans ?_
  refine done_step m ρ K c 1 (by decide) (by decide) rfl ?_
  refine done_step m ρ K c 2 (by decide) (by decide) rfl ?_
  refine done_step m ρ K c 3 (by decide) (by decide) rfl ?_
  exact run_ret c (h _)

/-! ## The whole program -/

/-- The matrix of zeros and ones that sends the rows of the gather buffer to the tokens, as device `c` computes it. -/
def permOf (ix : Vec F S1024x1 .i32) : FVec F S1024x768 .bf16 :=
  k0_pay12 (k0_pay1 ix) (k0_pay2 ix) (iota .tc S1x768 32 [1] iota_S1x768_d1_w32)
    (k0_pay11 (iota .tc S1x768 32 [1] iota_S1x768_d1_w32) (k0_pay10 (myPos c)) 32#32) 6#32

/-- What device `c` leaves in the output's buffer. -/
def outAt : (cc0_stg4_0 : Ref sig .tc).ty.Contents (Elt F) := fullAt m ρ c (permOf c (istg m ρ c))

/-- All transfers started, the landings are next. -/
theorem send_to_recv : iprop(sendSt m ρ K c 32 ∗ restB m ρ c) ⊢ iprop(recvSt m ρ K c 1 ∗ restC m ρ c iprop(∃ f, held c cc0_stg4_0 f)) := by
  unfold sendSt restB recvSt restC
  rw [Orecv_last, Ge_last, Bt_last, Bt_first, bigSep_empty]
  iintro ⟨⟨#HK, Ho, -, Hc⟩, Hz, H0, HR, HA, HI, HO⟩
  isplitl [Ho HR]
  · isplitr; · iexact HK
    isplitl [Ho]; · iexact Ho
    isplitl [HR]; · iexact HR
    rw [bigSep_empty]; iempintro
  isplitl [Hz]; · iexact Hz
  isplitl [H0]; · iexact H0
  isplitl [Hc HA]
  · unfold doneIn
    rw [bigSep_sep']
    isplitl [HA] <;> iassumption
  isplitl [HI] <;> iassumption

theorem run_bind {α β : Type} {P : sProp 𝕄} {p : Prog (TpuEff nD τ sig (Elt F) Λ₀ .tc) α} {k : α → Prog (TpuEff nD τ sig (Elt F) Λ₀ .tc) β} {Q : β → sProp 𝕄}
    (h : P ⊢ Run c p fun a => Run c (k a) Q) : P ⊢ Run c (p >>= k) Q := by
  unfold Run at *; rw [wp_bind]; exact h

/-- The block the parts compute is `yc`. -/
theorem own_block : k0_pay9
    (k0_pay6 (k0_pay1 (istg m ρ c)) (k0_pay2 (istg m ρ c)) (iota .tc S1x24 32 [1] iota_S1x24_d1_w32) (Scalar.muli (myPos c) 4#32) k0_pay3 k0_pay4 k0_pay5 (xstg m ρ c))
    (k0_pay7 (k0_pay1 (istg m ρ c)) (k0_pay2 (istg m ρ c)) (iota .tc S1x24 32 [1] iota_S1x24_d1_w32) (Scalar.muli (myPos c) 4#32) k0_pay3 k0_pay4 k0_pay5 (xstg m ρ c)
      (wLoad (wstg m ρ c) 0 inb_S4x256x512_S1x256x512_0_0_0))
    (k0_pay8 (k0_pay1 (istg m ρ c)) (k0_pay2 (istg m ρ c)) (iota .tc S1x24 32 [1] iota_S1x24_d1_w32) (Scalar.muli (myPos c) 4#32) k0_pay3 k0_pay4 k0_pay5 (xstg m ρ c))
    (wLoad (wstg m ρ c) 1 inb_S4x256x512_S1x256x512_1_0_0) (wLoad (wstg m ρ c) 2 inb_S4x256x512_S1x256x512_2_0_0)
      (wLoad (wstg m ρ c) 3 inb_S4x256x512_S1x256x512_3_0_0) = yc m ρ c := by unfold yc blockOf; with_reducible rfl

theorem part36 {Q : PUnit → sProp 𝕄} (h : ∀ r, iprop(doneSt m ρ K c 32 ∗ restD m ρ c (held c cc0_stg4_0 (outAt m ρ c))) ⊢ Q r) :
    iprop(sigSt m ρ K c 1 ∗ restA m ρ c) ⊢ Run c (onBufs (k0_part36 (F := F))) Q := by
  simp only [onBufs, k0_part36_eq_skeleton]; unfold k0_part36_skel
  refine run_bind c (part1 m ρ K c fun v w => ?_)
  refine run_bind c (part2 m ρ K c fun r => ?_)
  refine run_bind c (part3 m ρ K c fun r => ?_)
  refine run_bind c (part4 m ρ K c fun r => ?_)
  refine run_bind c (part5 m ρ K c fun r => ?_)
  refine run_bind c (part6 m ρ K c ?_)
  refine run_bind c (part7 m ρ K c ?_)
  refine run_bind c (part8 m ρ K c (own_block m ρ c) fun r => ?_)
  refine run_bind c (part9 m ρ K c fun r => ?_)
  refine run_bind c (part10 m ρ K c fun r => ?_)
  refine run_bind c (part11 m ρ K c fun r => ?_)
  refine run_bind c (part12 m ρ K c fun r => ?_)
  refine run_bind c (part13 m ρ K c fun r => ?_)
  refine run_bind c (part14 m ρ K c fun r => ?_)
  refine run_bind c (part15 m ρ K c fun r => ?_)
  refine run_bind c (part16 m ρ K c fun r => ?_)
  refine run_bind c (part17 m ρ K c fun r => ?_)
  refine run_bind c (part18 m ρ K c fun r => ?_)
  refine run_bind c (part19 m ρ K c ?_)
  refine run_bind c (part20 c ?_)
  refine (send_to_recv m ρ K c).trans ?_
  refine run_bind c (part21 m ρ K c ?_)
  refine run_bind c (part22 m ρ K c fun r => ?_)
  refine run_bind c (part23 m ρ K c fun r => ?_)
  refine run_bind c (part24 m ρ K c fun r => ?_)
  refine run_bind c (part25 m ρ K c (permOf c (istg m ρ c)) fun r => ?_)
  refine run_bind c (part26 m ρ K c fun r => ?_)
  refine run_bind c (part27 m ρ K c fun r => ?_)
  refine run_bind c (part28 m ρ K c fun r => ?_)
  refine run_bind c (part29 m ρ K c fun r => ?_)
  refine run_bind c (part30 m ρ K c (permOf c (istg m ρ c)) fun r => ?_)
  refine run_bind c (part31 m ρ K c fun r => ?_)
  refine run_bind c (part32 m ρ K c fun r => ?_)
  refine run_bind c (part33 m ρ K c fun r => ?_)
  refine run_bind c (part34 m ρ K c fun r => ?_)
  refine run_bind c (part35 m ρ K c fun r => ?_)
  simp only [Prog.lift, Prog.bind_op, Prog.bind_ret, Prog.pure_eq_ret]
  refine done_step m ρ K c 29 (by decide) (by decide) rfl ?_
  refine done_step m ρ K c 30 (by decide) (by decide) rfl ?_
  refine done_step m ρ K c 31 (by decide) (by decide) rfl ?_
  exact run_ret c (h _)

/-- The kernel on device `c`. -/
theorem body_run {Q : PUnit → sProp 𝕄} (h : iprop(doneSt m ρ K c 32 ∗ restD m ρ c (held c cc0_stg4_0 (outAt m ρ c))) ⊢ Q ⟨⟩) :
    iprop(sigSt m ρ K c 1 ∗ restA m ρ c) ⊢ Run c (onBufs (cc0_body (F := F))) Q := by
  simp only [onBufs, cc0_body_eq_skeleton]; unfold cc0_body_skel
  refine run_bind c ?_
  have key := part36 m ρ K c (Q := fun _ => Run c (pure ⟨⟩) Q) (fun r => run_ret c h)
  dsimp only [onBufs] at key
  generalize sigSt m ρ K c 1 = A at *
  generalize restA m ρ c = B at *
  generalize (k0_part36 (F := F) (Memref.whole cc0_stg0_0) (Memref.isWhole_whole _) (Memref.whole cc0_stg1_0) (Memref.isWhole_whole _) (Memref.whole cc0_stg2_0) (Memref.isWhole_whole _)
    (Memref.whole cc0_stg3_0) (Memref.isWhole_whole _) (Memref.whole cc0_stg4_0) (Memref.isWhole_whole _) (Memref.whole cc0_scratch0) (Memref.isWhole_whole _)
    cc0_scratch1 cc0_scratch2) = p at *
  exact key

end Cert.Exchange

end
-- ==== Proof.Launch.lean ====
/-
# The launch

What each device is dealt at launch — the places, the duties and the credits of the exchange —, the kernel's body run from
it, and the run of the whole program: every device's result array holds what the kernel computes, the argument arrays are
as they were, and every semaphore is at zero.
-/
module

public import proofs.«01_k».proof.Proof.Body
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells of a device, one by one -/

theorem ownSemFacts : Pipeline.OwnSemFacts cfg0.spec osem := by decide

theorem osem_injective : Function.Injective (osem : Fin 64 → SemLoc sig) := by decide
theorem csem_injective : Function.Injective (csem : Option (Fin 64) → SemLoc sig) := by
  intro a b h
  rcases a with _ | a <;> rcases b with _ | b
  · rfl
  · cases h
  · cases h
  · exact congrArg some (osem_injective h)
theorem kcell_injective : Function.Injective (kcell : Dev nD × Option (Fin 64) → GSem nD τ sig) := by
  rintro ⟨c, k⟩ ⟨c', k'⟩ h
  have h1 : c = c' := by have := congrArg (fun g : GSem nD τ sig => g.1.1) h; exact this
  subst h1
  have h2 : k = k' := csem_injective (congrArg Prod.snd h)
  rw [h2]
def exCells : Finset (GSem nD τ sig) := Finset.univ.map ⟨kcell, kcell_injective⟩

omit [FloatOps F] in
/-- The sixty-four, cut into the sends' and the landings'. -/
theorem own_split (c : Dev nD) (Φ : GSem nD τ sig → sProp 𝕄) :
    (bigSep Finset.univ fun k : Fin 64 => Φ ((c : Thread nD τ), osem k))
      = iprop((bigSep Finset.univ fun d : Dev nD => Φ (sendCell c d)) ∗ bigSep Finset.univ fun d : Dev nD => Φ (recvCell c d)) := by
  refine (bigSep_univ_equiv (finSumFinEquiv : Fin 32 ⊕ Fin 32 ≃ Fin 64) _).trans ((bigSep_univ_sum _).trans ?_)
  have e1 : ∀ d : Fin 32, ((c : Thread nD τ), osem ((finSumFinEquiv : Fin 32 ⊕ Fin 32 ≃ Fin 64) (Sum.inl d))) = sendCell c d := by
    intro d; refine congrArg _ ?_; revert d; decide
  have e2 : ∀ d : Fin 32, ((c : Thread nD τ), osem ((finSumFinEquiv : Fin 32 ⊕ Fin 32 ≃ Fin 64) (Sum.inr d))) = recvCell c d := by
    intro d; refine congrArg _ ?_; revert d; decide
  exact congrArg₂ _ (bigSep_congr fun d _ => congrArg Φ (e1 d)) (bigSep_congr fun d _ => congrArg Φ (e2 d))

omit [FloatOps F] in
theorem option_split (Φ : Option (Fin 64) → sProp 𝕄) :
    bigSep Finset.univ Φ = iprop(Φ none ∗ bigSep Finset.univ fun k : Fin 64 => Φ (some k)) := by
  rw [bigSep_univ_at Φ none]
  rw [show (Finset.univ.erase none : Finset (Option (Fin 64))) = Finset.univ.map ⟨some, Option.some_injective _⟩ from by
    ext k; cases k <;> simp, bigSep_map]
  rfl

omit [FloatOps F] in
/-- All sixty-five. -/
theorem cells_split (c : Dev nD) (Φ : GSem nD τ sig → sProp 𝕄) :
    (bigSep Finset.univ fun k : Option (Fin 64) => Φ (kcell (c, k)))
      = iprop(Φ (barCell c) ∗ (bigSep Finset.univ fun d : Dev nD => Φ (sendCell c d)) ∗ bigSep Finset.univ fun d : Dev nD => Φ (recvCell c d)) := by
  rw [option_split, ← own_split]

omit [FloatOps F] in
theorem ownSems0_eq (c : Dev nD) : (Pipeline.ownSems0 (Ix := Unit) (Name := ℕ) (U := UU) (Lvl := ℕ) (Val := Elt F) (τ := τ) osem c : sProp 𝕄)
    = iprop((bigSep Finset.univ fun d : Dev nD => semVal (sendCell c d) 0) ∗ bigSep Finset.univ fun d : Dev nD => semVal (recvCell c d) 0) := by
  unfold Pipeline.ownSems0; exact own_split c fun g => semVal g 0
omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Option (Fin 64) => semVal (kcell (c, k)) 0 : sProp 𝕄) := by
  rw [ownSems0_eq, unscopedSems0_eq, cells_split c fun g => semVal g 0]
  iintro ⟨⟨HS, HV⟩, HB⟩
  isplitl [HB]; · iexact HB
  isplitl [HS] <;> iassumption

/-! ## The duties -/

/-- The duties minted: of each device and shift, the barrier's, the transfer's, the landing's. -/
abbrev tokOf (x : Dev nD × Dev nD × Fin 3) : GSem nD τ sig × ℕ × Dev nD := match x.2.2 with
  | 0 => (barCell x.1, 0, x.2.1) | 1 => (sendCell x.1 x.2.1, 0, 0) | 2 => (recvCell x.1 x.2.1, 0, 0)

theorem send_inj {d d' : Dev nD} (h : (SemLoc.dma (sendSem d) : SemLoc sig) = .dma (sendSem d')) : d = d' := by revert d d'; decide
theorem recv_inj {d d' : Dev nD} (h : (SemLoc.dma (recvSem d) : SemLoc sig) = .dma (recvSem d')) : d = d' := by revert d d'; decide
theorem send_ne_recv (d d' : Dev nD) : (SemLoc.dma (sendSem d) : SemLoc sig) ≠ .dma (recvSem d') := by revert d d'; decide

theorem tokOf_injective : Function.Injective tokOf := by
  rintro ⟨c, d, j⟩ ⟨c', d', j'⟩ h
  have h1 : c = c' := by
    have := congrArg (fun x : GSem nD τ sig × ℕ × Dev nD => x.1.1.1) h
    fin_cases j <;> fin_cases j' <;> exact this
  subst h1
  have h2 := congrArg (fun x : GSem nD τ sig × ℕ × Dev nD => x.1.2) h
  have h3 := congrArg (fun x : GSem nD τ sig × ℕ × Dev nD => x.2.2) h
  fin_cases j <;> fin_cases j'
  · have h3' : d = d' := h3
    rw [h3']
  · cases h2
  · cases h2
  · cases h2
  · have h2' : d = d' := send_inj h2
    rw [h2']
  · exact absurd h2 (send_ne_recv _ _)
  · cases h2
  · exact absurd h2.symm (send_ne_recv _ _)
  · have h2' : d = d' := recv_inj h2
    rw [h2']
def exToks : Finset (GSem nD τ sig × ℕ × Dev nD) := Finset.univ.map ⟨tokOf, tokOf_injective⟩

def u₀ : UU := (initOf (Pipeline.cells cfgs cellOf_inj) (Pipeline.launchToks cfgs cellOf_inj), initOf exCells exToks)

/-- The duties of device `c`'s own cells. -/
def toks (c : Dev nD) : sProp 𝕄 :=
  bigSep Finset.univ fun d : Dev nD => iprop(dutyTok EX (barCell c) 0 d ∗ dutyTok EX (sendCell c d) 0 0 ∗ dutyTok EX (recvCell c d) 0 0)

/-- What a device is dealt at launch. -/
def G (c : Dev nD) : sProp 𝕄 :=
  iprop((bigSep Finset.univ fun k : Option (Fin 64) => roundState EX (exRd m ρ) (kcell (c, k)) 0)
    ∗ (bigSep Finset.univ fun k : Option (Fin 64) => iprop(atPos EX (kcell (c, k)) 0 ∅ 0 ∗ reached EX (kcell (c, k)) 0)) ∗ toks c)

omit [FloatOps F] in
theorem bigSep_fin3 (Φ : Fin 3 → sProp 𝕄) : bigSep Finset.univ Φ = iprop(Φ 0 ∗ Φ 1 ∗ Φ 2) := bigSep_univ_eq_bigSepL [0, 1, 2] (by decide) (by decide) Φ

theorem fund_ex : BI.own (EX (initOf exCells exToks)) ⊢ (|==> bigSep Finset.univ (G m ρ) : sProp 𝕄) := by
  have hX (Φ : GSem nD τ sig → sProp 𝕄) : bigSep exCells Φ = bigSep Finset.univ fun c : Dev nD => bigSep Finset.univ fun k : Option (Fin 64) => Φ (kcell (c, k)) := by
    unfold exCells; rw [bigSep_map, bigSep_univ_prod]; rfl
  have hT : bigSep exToks (fun x => (dutyTok EX x.1 x.2.1 x.2.2 : sProp 𝕄)) = bigSep Finset.univ fun c : Dev nD => toks c := by
    unfold exToks; rw [bigSep_map, bigSep_univ_prod]
    exact bigSep_congr fun c _ => by
      unfold toks; rw [bigSep_univ_prod]
      exact bigSep_congr fun d _ => by rw [bigSep_fin3]; rfl
  iintro HX
  imod (Rounds.fund EX (exRd m ρ) exCells exToks) $$ HX with ⟨Hst, Hr, Hat, Htok⟩
  imodintro
  ihave Hst' := (Entails.of_eq (hX fun g => roundState EX (exRd m ρ) g 0)) $$ Hst
  ihave Hat' := (Entails.of_eq (hX fun g => atPos EX g 0 ∅ 0)) $$ Hat
  ihave Hr' := (Entails.of_eq (hX fun g => reached EX g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv EX (exRd m ρ) κ (kcell (c, k))))
          ∗ (bigSep Finset.univ fun k => iprop(atPos EX (kcell (c, k)) 0 ∅ 0 ∗ reached EX (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Option (Fin 64) => semVal (kcell (c, k)) 0) ∗ bigSep Finset.univ fun k : Option (Fin 64) => roundState EX (exRd m ρ) (kcell (c, k)) 0)
      ⊢ (|={Set.univ}=> bigSep Finset.univ fun k => iprop(∃ κ : ℕ, cellInv EX (exRd m ρ) κ (kcell (c, k))) : sProp 𝕄) from by
        rw [← bigSep_sep']
        exact (bigSep_mono fun k _ => (Rounds.body_intro EX (exRd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- The duties a device pays. -/
def payToks (c : Dev nD) : sProp 𝕄 :=
  iprop((bigSep (Ge 1) fun d => dutyTok EX (barCell (c + d)) 0 d)
    ∗ bigSep (Ge 1) fun d => iprop(dutyTok EX (sendCell c d) 0 0 ∗ dutyTok EX (recvCell (c + d) d) 0 0))
/-- A device's places and the duties it pays. -/
def linear (c : Dev nD) : sProp 𝕄 :=
  iprop((atPos EX (barCell c) 0 ∅ 0 ∗ (bigSep Finset.univ fun d : Dev nD => atPos EX (sendCell c d) 0 ∅ 0)
    ∗ bigSep Finset.univ fun d : Dev nD => atPos EX (recvCell c d) 0 ∅ 0) ∗ payToks c)
/-- The invariants and reached rounds of all, and what is the device's own. -/
def ghost (K : Dev nD × Option (Fin 64) → ℕ) (c : Dev nD) : sProp 𝕄 := iprop(records m ρ K ∗ linear c)
def G' (c : Dev nD) : sProp 𝕄 := iprop(∃ K, ghost m ρ K c)

/-- The devices moved `d` places on. -/
def shiftBy (d : Dev nD) : Dev nD ≃ Dev nD :=
  ⟨fun c => c + d, fun c => c - d, fun c => by revert c d; decide, fun c => by revert c d; decide⟩

omit [FloatOps F] in
/-- The duties by the device that owns the cell, dealt to the device that pays, `d` places before it. -/
theorem deal (Φ : Dev nD → Dev nD → sProp 𝕄) :
    (bigSep Finset.univ fun c => bigSep Finset.univ fun d => Φ c d) ⊢ bigSep Finset.univ fun c => bigSep (Ge 1) fun d => Φ (c + d) d := by
  rw [bigSep_univ_comm]
  have h : (bigSep Finset.univ fun d => bigSep Finset.univ fun c => Φ c d) = bigSep Finset.univ fun d => bigSep Finset.univ fun c => Φ (c + d) d :=
    bigSep_congr fun d _ => bigSep_univ_equiv (shiftBy d) fun c => Φ c d
  rw [h, bigSep_univ_comm]
  exact bigSep_mono fun c _ => bigSep_subset (Finset.subset_univ _)

omit [FloatOps F] in
theorem deal_own (Φ : Dev nD → Dev nD → sProp 𝕄) :
    (bigSep Finset.univ fun c => bigSep Finset.univ fun d => Φ c d) ⊢ bigSep Finset.univ fun c => bigSep (Ge 1) fun d => Φ c d :=
  bigSep_mono fun c _ => bigSep_subset (Finset.subset_univ _)

omit [FloatOps F] in
theorem toks_deal : (bigSep Finset.univ fun c : Dev nD => (toks c : sProp 𝕄)) ⊢ bigSep Finset.univ fun c : Dev nD => payToks c := by
  unfold toks payToks
  simp only [bigSep_sep']
  iintro ⟨H1, H2, H3⟩
  isplitl [H1]; · iapply (deal (F := F) fun c d => dutyTok EX (barCell c) 0 d); iexact H1
  isplitl [H2]
  · iapply (deal_own (F := F) fun c d => dutyTok EX (sendCell c d) 0 0); iexact H2
  · iapply (deal (F := F) fun c d => dutyTok EX (recvCell c d) 0 0); iexact H3

omit [FloatOps F] in
theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv EX (exRd m ρ) κ (kcell (c, k))))
          ∗ (bigSep Finset.univ fun k => iprop(atPos EX (kcell (c, k)) 0 ∅ 0 ∗ reached EX (kcell (c, k)) 0)) ∗ toks c) : sProp 𝕄)
      ⊢ bigSep Finset.univ (G' m ρ) := by
  rw [bigSep_sep', bigSep_sep', ← bigSep_univ_prod (fun ck : Dev nD × Option (Fin 64) => iprop(∃ κ : ℕ, cellInv EX (exRd m ρ) κ (kcell ck))),
    bigSep_congr (s := Finset.univ) (fun (c : Dev nD) _ => bigSep_sep' Finset.univ (fun k : Option (Fin 64) => (atPos EX (kcell (c, k)) 0 ∅ 0 : sProp 𝕄)) (fun k => reached EX (kcell (c, k)) 0)),
    bigSep_sep', ← bigSep_univ_prod (fun ck : Dev nD × Option (Fin 64) => (reached EX (kcell ck) 0 : sProp 𝕄))]
  iintro ⟨HI, ⟨Hat, #HR⟩, Htok⟩
  ihave HK := (BI.bigSep_exists_pi Finset.univ (fun (ck : Dev nD × Option (Fin 64)) (κ : ℕ) => (cellInv EX (exRd m ρ) κ (kcell ck) : sProp 𝕄))) $$ HI
  icases HK with ⟨%K, #HI⟩
  ihave Htk := (toks_deal (F := F)) $$ Htok
  iapply (with_persistent (R := records m ρ K) fun c _ => show iprop(records m ρ K ∗ linear c) ⊢ G' m ρ c from by
    unfold G' ghost; iintro H; iexists K; iexact H)
  isplitr
  · unfold records; isplitl; · iexact HI
    iexact HR
  · unfold linear
    rw [bigSep_sep', ← bigSep_congr (s := Finset.univ) fun (c : Dev nD) _ => cells_split (F := F) c fun g => atPos EX g 0 ∅ 0]
    isplitl [Hat] <;> iassumption

/-- All semaphores of all devices become the exchange's cells at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

end Cert.Exchange

end
-- ==== Proof.Run.lean ====
/-
# The run of the whole program

The credits of the launch, the kernel's body from what a device is dealt, and the run: every device's result array holds
what its kernel computes, the argument arrays are as they were, and every semaphore is at zero.
-/
module

public import proofs.«01_k».proof.Proof.Launch
public import Idealize.ShloMosaic.Lib.Pipeline.CollectiveSegs

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The credits at launch -/

omit [FloatOps F] in
theorem bar_iff {a b : Dev nD} : Iff (barCell a = barCell b) (a = b) :=
  ⟨fun h => congrArg (fun g : GSem nD τ sig => g.1.1) h, fun h => h ▸ rfl⟩
omit [FloatOps F] in
theorem recv_iff {a b d e : Dev nD} : Iff (recvCell a d = recvCell b e) (a = b ∧ d = e) :=
  ⟨fun h => ⟨congrArg (fun g : GSem nD τ sig => g.1.1) h, recv_inj (congrArg Prod.snd h)⟩, fun h => by rw [h.1, h.2]⟩
theorem recv_ne_barCell (a b d : Dev nD) : recvCell a d ≠ barCell b := fun h => by have := congrArg Prod.snd h; cases this

theorem sum_at {S : Finset (Dev nD)} (f : Dev nD → CellTallies nD τ sig Unit) (g : GSem nD τ sig) (u : Unit) :
    (∑ d ∈ S, f d) g u = ∑ d ∈ S, f d g u := by rw [Finset.sum_apply, Finsupp.finset_sum_apply]

theorem Ge_card : (Ge 1).card = 31 := by decide

theorem only_before (a c d : Dev nD) : Iff (c = a + d) (a = c - d) := by
  constructor
  · intro h; rw [h]; clear h c; revert a d; decide
  · intro h; rw [h]; clear h a; revert c d; decide

/-- What a device owes a barrier: a unit if it is another device's. -/
theorem owed_bar (a c : Dev nD) : O₀ a (barCell c) () = ∑ d ∈ Ge 1, if a = c - d then 1 else 0 := by
  unfold O₀ Orecv Obar
  rw [Pi.add_apply, Finsupp.add_apply, sum_at, sum_at, Finset.sum_eq_zero (fun d _ => by
    rw [tallyAt_ne_cell (fun h => recv_ne_barCell _ _ _ h.symm)]; rfl), Nat.zero_add]
  refine Finset.sum_congr rfl fun d _ => ?_
  rw [tallyAt_apply]
  by_cases h : a = c - d
  · rw [if_pos h, if_pos ⟨bar_iff.mpr ((only_before a c d).mpr h), rfl⟩]
  · rw [if_neg h, if_neg fun h' => h ((only_before a c d).mp (bar_iff.mp h'.1))]

/-- What it owes a landing: its credit, from the device the landing's shift before it. -/
theorem owed_recv (a c d : Dev nD) (hd : d ∈ Ge 1) : O₀ a (recvCell c d) () = if a = c - d then N else 0 := by
  unfold O₀ Orecv Obar
  rw [Pi.add_apply, Finsupp.add_apply, sum_at, sum_at, Finset.sum_eq_zero (s := Ge 1) (f := fun e => (tallyAt (barCell (a + e)) () 1 : CellTallies nD τ sig Unit) (recvCell c d) ()) (fun e _ => by
    rw [tallyAt_ne_cell (recv_ne_barCell _ _ _)]; rfl), Nat.add_zero, Finset.sum_eq_single d]
  · rw [tallyAt_apply]
    by_cases h : a = c - d
    · rw [if_pos h, if_pos ⟨recv_iff.mpr ⟨(only_before a c d).mpr h, rfl⟩, rfl⟩]
    · rw [if_neg h, if_neg fun h' => h ((only_before a c d).mp (recv_iff.mp h'.1).1)]
  · intro e _ he
    rw [tallyAt_apply, if_neg fun h' => he (recv_iff.mp h'.1).2.symm]
  · exact fun h => absurd hd h

theorem launch_bar (c : Dev nD) :
    tallyOn (barCell c) (launchCredit (Pipeline.owing O₀) 0 (barCell c)) = (tallyAt (barCell c) () 31 : CellTallies nD τ sig Unit) := by
  unfold tallyAt; refine congrArg _ (Finsupp.ext fun u => ?_); cases u
  rw [Pipeline.launchCredit_owing, Finsupp.single_eq_same, Finset.sum_congr rfl fun a _ => owed_bar a c, Finset.sum_comm,
    Finset.sum_congr rfl fun d _ => Finset.sum_ite_eq' Finset.univ (c - d) fun _ => 1,
    Finset.sum_congr rfl fun d _ => if_pos (Finset.mem_univ _), Finset.sum_const, Ge_card]
  rfl

theorem launch_recv (c d : Dev nD) (hd : d ∈ Ge 1) :
    tallyOn (recvCell c d) (launchCredit (Pipeline.owing O₀) 0 (recvCell c d)) = (tallyAt (recvCell c d) () N : CellTallies nD τ sig Unit) := by
  unfold tallyAt; refine congrArg _ (Finsupp.ext fun u => ?_); cases u
  rw [Pipeline.launchCredit_owing, Finsupp.single_eq_same, Finset.sum_congr rfl fun a _ => owed_recv a c d hd,
    Finset.sum_ite_eq' Finset.univ (c - d) fun _ => N, if_pos (Finset.mem_univ _)]

def landSem : Dev nD ↪ SemLoc sig := ⟨fun d => .dma (recvSem d), fun _ _ h => recv_inj h⟩

omit [FloatOps F] in
theorem creds (c : Dev nD) :
    (Pipeline.launchCred O₀ c : sProp 𝕄) ⊢ iprop(cred (tallyAt (barCell c) () 31) ∗ bigSep (Ge 1) fun d => cred (tallyAt (recvCell c d) () N)) := by
  unfold Pipeline.launchCred
  rw [bigSep_univ_at _ (SemLoc.reg barS), launch_bar]
  refine sep_mono_right ?_
  refine (bigSep_subset (t := (Ge 1).map landSem) fun s hs => ?_).trans ?_
  · obtain ⟨d, -, rfl⟩ := Finset.mem_map.mp hs
    exact Finset.mem_erase.mpr ⟨(fun h => by cases h), Finset.mem_univ _⟩
  · rw [bigSep_map]
    exact Entails.of_eq (bigSep_congr fun d hd => congrArg _ (launch_recv c d hd))

/-! ## The pipeline's proof data -/

/-- What the kernel starts from. -/
def start (c : Dev nD) : sProp 𝕄 :=
  iprop(G' m ρ c ∗ cred (tallyAt (barCell c) () 31) ∗ (bigSep (Ge 1) fun d => cred (tallyAt (recvCell c d) () N)) ∗ levAts L lv)
def Φ₀ (c : Dev nD) : sProp 𝕄 := iprop(start m ρ c ∗ ∃ f, held c cc0_scratch0 f)
/-- What it ends with: the gather buffer, and all its semaphores at zero. -/
def Φ₁ (c : Dev nD) : sProp 𝕄 :=
  iprop((∃ f, held c cc0_scratch0 f) ∗ (bigSep Finset.univ fun d : Dev nD => semVal (sendCell c d) 0)
    ∗ (bigSep Finset.univ fun d : Dev nD => semVal (recvCell c d) 0) ∗ semVal (barCell c) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => rstg m ρ c
    | ⟨2, _⟩ => istg m ρ c
    | ⟨3, _⟩ => wstg m ρ c
    | ⟨4, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ held c b f) := by
  unfold owns; simp only [Memref.view_whole, View.read_whole, View.set_whole]

/-- A staging buffer at given contents. -/
abbrev stg (c : Dev nD) (b : Ref sig .tc) (X : b.ty.Contents (Elt F)) : sProp 𝕄 :=
  iprop(∃ f : Buf (Elt F) (((c : Dev nD) : Thread nD τ).loc b), ⌜f = X⌝ ∗ held c b f)

/-! ## The gather buffer, cut into slots -/

omit [FloatOps F] in
theorem Ge_neg (Φ : Dev nD → sProp 𝕄) : bigSep (Ge 1) Φ = bigSep (Ge 1) fun d => Φ (-d) := by
  have h : (Ge 1 : Finset (Dev nD)) = (Ge 1).map negShift.toEmbedding := by decide
  conv_lhs => rw [h, bigSep_map]
  rfl

omit [FloatOps F] in
theorem all_shifts (Φ : Dev nD → sProp 𝕄) : bigSep Finset.univ Φ = iprop(Φ 0 ∗ bigSep (Ge 1) Φ) := by
  rw [Ge_one]; exact bigSep_univ_at Φ 0

omit [FloatOps F] in
theorem slots_eq (c : Dev nD) (f : (cc0_scratch0 : Ref sig .tc).ty.Contents (Elt F)) :
    (held c cc0_scratch0 f : sProp 𝕄) = bigSep Finset.univ fun d => gPts c (slotSet d) fullShare f := by
  have h := pointsTo_biUnion (ℓ := (c : Thread nD τ).loc cc0_scratch0) (q := fullShare) (f := f) (U := UU) (Ix := Unit) (Name := ℕ) (Lvl := ℕ) (Finset.univ : Finset (Dev nD)) slotSet (fun t _ t' _ h => slot_disjoint t t' h)
  rw [slot_cover] at h
  exact h

omit [FloatOps F] in
theorem slot_some (c d : Dev nD) (f : (cc0_scratch0 : Ref sig .tc).ty.Contents (Elt F)) :
    (gPts c (slotSet (-d)) fullShare f : sProp 𝕄) ⊢ iprop(∃ f, gPts c (slotSet (-d)) fullShare f) := by
  iintro H; iexists f; iexact H

omit [FloatOps F] in
theorem slots_some (c : Dev nD) (f : (cc0_scratch0 : Ref sig .tc).ty.Contents (Elt F)) :
    (bigSep (Ge 1) fun d => gPts c (slotSet (-d)) fullShare f : sProp 𝕄) ⊢ bigSep (Ge 1) fun d => iprop(∃ f, gPts c (slotSet (-d)) fullShare f) :=
  bigSep_mono fun d _ => slot_some c d f

omit [FloatOps F] in
/-- The own slot apart, the others named by the shift they are handed over for. -/
theorem cut_slots (c : Dev nD) (f : (cc0_scratch0 : Ref sig .tc).ty.Contents (Elt F)) :
    (held c cc0_scratch0 f : sProp 𝕄) ⊢ iprop((∃ f, gPts c (slotSet 0) fullShare f) ∗ bigSep (Ge 1) fun d => iprop(∃ f, gPts c (slotSet (-d)) fullShare f)) := by
  rw [slots_eq, all_shifts, Ge_neg]
  iintro ⟨H0, H1⟩
  isplitl [H0]; · iexists f; iexact H0
  iapply (slots_some c f); iexact H1

variable (K : Dev nD × Option (Fin 64) → ℕ)

/-! ## The body's start and end -/

/-- The two semaphores no transfer uses. -/
def idle (c : Dev nD) : sProp 𝕄 := iprop(semVal (sendCell c 0) 0 ∗ semVal (recvCell c 0) 0)

theorem ready (c : Dev nD) :
    iprop((records m ρ K ∗ linear c) ∗ (cred (tallyAt (barCell c) () 31) ∗ (bigSep (Ge 1) fun d => cred (tallyAt (recvCell c d) () N)) ∗ levAts L lv)
        ∗ (∃ f, held c cc0_scratch0 f) ∗ owesE c (O₀ c) ∗ inputs m ρ c ∗ ∃ f, held c cc0_stg4_0 f)
      ⊢ |={Set.univ}=> iprop((sigSt m ρ K c 1 ∗ restA m ρ c) ∗ idle c) := by
  unfold linear payToks
  rw [all_shifts (F := F) fun d => atPos EX (sendCell c d) 0 ∅ 0, all_shifts (F := F) fun d => atPos EX (recvCell c d) 0 ∅ 0]
  iintro ⟨⟨#HR, ⟨HaB, ⟨HaS0, HaS⟩, HaV0, HaV⟩, HtB, HtX⟩, ⟨HcB, HcV, #HL⟩, ⟨%f, Hscr⟩, HO, Hin, Hout⟩
  ihave #HK := (show iprop(records m ρ K ∗ levAts L lv) ⊢ Know m ρ K from by unfold Know; exact .rfl) $$ []
  · isplitl; · iexact HR
    iexact HL
  imod (Rounds.cell_close EX (exRd m ρ) (Set.mem_univ (K (c, kSend 0))) (fun h => h) (R := 0) (duties_send0 m ρ c)) $$ [HaS0] with HzS
  · isplitr; · iapply (inv_send m ρ K c 0); iexact HK
    iexact HaS0
  imod (Rounds.cell_close EX (exRd m ρ) (Set.mem_univ (K (c, kRecv 0))) (fun h => h) (R := 0) (duties_recv0 m ρ c)) $$ [HaV0] with HzV
  · isplitr; · iapply (inv_recv m ρ K c 0); iexact HK
    iexact HaV0
  imodintro
  ihave Hs := (cut_slots c f) $$ Hscr
  icases Hs with ⟨H0, Hs⟩
  isplitr [HzS HzV]
  · isplitl [HO HtB Hs]
    · unfold sigSt
      isplitr; · iexact HK
      isplitl [HO]; · iexact HO
      unfold sigIn; rw [bigSep_sep']
      isplitl [HtB] <;> iassumption
    · unfold restA
      isplitl [HaB]; · iexact HaB
      isplitl [HcB]; · iexact HcB
      isplitl [H0]; · iexact H0
      isplitl [HtX]; · iexact HtX
      isplitl [HaV HcV]
      · unfold recvIn; rw [bigSep_sep']; isplitl [HaV] <;> iassumption
      isplitl [HaS]; · iexact HaS
      isplitl [Hin] <;> iassumption
  · unfold idle; isplitl [HzS] <;> iassumption

/-- The end of the body, its buffers whole again and every semaphore at zero. -/
theorem finished (c : Dev nD) :
    iprop((doneSt m ρ K c 32 ∗ restD m ρ c (held c cc0_stg4_0 (outAt m ρ c))) ∗ idle c)
      ⊢ iprop(Φ₁ c ∗ owesE c 0 ∗ inputs m ρ c ∗ held c cc0_stg4_0 (outAt m ρ c)) := by
  unfold doneSt restD Φ₁ idle recvOut doneOut
  rw [Bt_last, bigSep_sep', bigSep_sep', all_shifts (F := F) fun d => semVal (sendCell c d) 0, all_shifts (F := F) fun d => semVal (recvCell c d) 0]
  iintro ⟨⟨⟨-, HO, -, HzS, Hl⟩, HzB, Hl0, ⟨HzV, Hsl⟩, Hin, Hout⟩, HzS0, HzV0⟩
  isplitr [HO Hin Hout]
  · isplitl [Hl Hl0 Hsl]
    · iexists (gath m ρ c)
      iapply (Entails.of_eq ((slots_eq c (gath m ρ c)).trans (all_shifts _)).symm)
      isplitl [Hl Hl0]
      · iapply (Entails.of_eq (gPts_leaves c (slotSet 0) (gath m ρ c)).symm)
        isplitl [Hl0] <;> iassumption
      iexact Hsl
    isplitl [HzS HzS0]
    · isplitl [HzS0] <;> iassumption
    isplitl [HzV HzV0]
    · isplitl [HzV0] <;> iassumption
    iexact HzB
  isplitl [HO]; · iexact HO
  isplitl [Hin] <;> iassumption

set_option maxRecDepth 8000 in
theorem whole_body (c : Dev nD) :
    iprop((records m ρ K ∗ linear c) ∗ (cred (tallyAt (barCell c) () 31) ∗ (bigSep (Ge 1) fun d => cred (tallyAt (recvCell c d) () N)) ∗ levAts L lv)
        ∗ (∃ f, held c cc0_scratch0 f) ∗ owesE c (O₀ c) ∗ inputs m ρ c ∗ ∃ f, held c cc0_stg4_0 f)
      ⊢ Run c (onBufs (cc0_body (F := F))) (fun _ => iprop(Φ₁ c ∗ owesE c 0 ∗ inputs m ρ c ∗ held c cc0_stg4_0 (outAt m ρ c))) := by
  have key := body_run (Q := fun _ => iprop(doneSt m ρ K c 32 ∗ restD m ρ c (held c cc0_stg4_0 (outAt m ρ c)))) m ρ K c .rfl
  have fin := finished m ρ K c
  refine (ready m ρ K c).trans ?_
  dsimp only [onBufs] at key ⊢
  generalize cc0_body (F := F) _ _ _ _ _ _ _ _ _ _ _ _ _ _ = p at *
  refine (BI.fupd_mono (((sep_mono_left key).trans (wp_frame_r _ _ _)).trans (wp_mono _ _ _ fun _ => fin))).trans (fupd_wp _ _ _ _ _)

/-! ## The library's obligation -/

def bodyPre (c : Dev nD) : sProp 𝕄 :=
  iprop(Φ₀ m ρ c ∗ (dats m ρ 0 c).owesAt () t0_0.castSucc
    ∗ (∃ d, stg c cc0_stg0_0 ((dats m ρ 0 c).before (0 : Fin 5) t0_0 d))
    ∗ (∃ d, stg c cc0_stg1_0 ((dats m ρ 0 c).before (1 : Fin 5) t0_0 d))
    ∗ (∃ d, stg c cc0_stg2_0 ((dats m ρ 0 c).before (2 : Fin 5) t0_0 d))
    ∗ (∃ d, stg c cc0_stg3_0 ((dats m ρ 0 c).before (3 : Fin 5) t0_0 d))
    ∗ (∃ d, stg c cc0_stg4_0 ((dats m ρ 0 c).before (4 : Fin 5) t0_0 d)))

def bodyPost (c : Dev nD) : sProp 𝕄 :=
  iprop(Φ₁ c ∗ (dats m ρ 0 c).owesAt () t0_0.succ ∗ stg c cc0_stg0_0 (xstg m ρ c) ∗ stg c cc0_stg1_0 (rstg m ρ c)
    ∗ stg c cc0_stg2_0 (istg m ρ c) ∗ stg c cc0_stg3_0 (wstg m ρ c) ∗ stg c cc0_stg4_0 (outAt m ρ c))

theorem before_0 (c : Dev nD) (d) : (dats m ρ 0 c).before (0 : Fin 5) t0_0 d = xstg m ρ c := by unfold Dat.before; rw [if_pos (fetch0_0 t0_0)]; rfl
theorem before_1 (c : Dev nD) (d) : (dats m ρ 0 c).before (1 : Fin 5) t0_0 d = rstg m ρ c := by unfold Dat.before; rw [if_pos (fetch0_1 t0_0)]; rfl
theorem before_2 (c : Dev nD) (d) : (dats m ρ 0 c).before (2 : Fin 5) t0_0 d = istg m ρ c := by unfold Dat.before; rw [if_pos (fetch0_2 t0_0)]; rfl
theorem before_3 (c : Dev nD) (d) : (dats m ρ 0 c).before (3 : Fin 5) t0_0 d = wstg m ρ c := by unfold Dat.before; rw [if_pos (fetch0_3 t0_0)]; rfl

theorem owes_in (c : Dev nD) : (dats m ρ 0 c).owesAt () t0_0.castSucc ⊢ (owesE c (O₀ c) : sProp 𝕄) := by
  unfold Dat.owesAt Pipeline.owesWithin owesE
  iintro ⟨%W, -, HO⟩
  iexists W; iexact HO
theorem owes_out (c : Dev nD) : (owesE c 0 : sProp 𝕄) ⊢ (dats m ρ 0 c).owesAt () t0_0.succ := by
  unfold Dat.owesAt Pipeline.owesWithin owesE
  iintro ⟨%W, HO⟩
  iexists W
  isplitr; · ipureintro; exact fun _ _ => Or.inl trivial
  iexact HO

theorem pre_split (c : Dev nD) :
    bodyPre m ρ c ⊢ iprop(∃ K, (records m ρ K ∗ linear c) ∗ (cred (tallyAt (barCell c) () 31) ∗ (bigSep (Ge 1) fun d => cred (tallyAt (recvCell c d) () N)) ∗ levAts L lv)
        ∗ (∃ f, held c cc0_scratch0 f) ∗ owesE c (O₀ c) ∗ inputs m ρ c ∗ ∃ f, held c cc0_stg4_0 f) := by
  unfold bodyPre Φ₀ start G' ghost inputs
  iintro ⟨⟨⟨⟨%K, HG⟩, HcB, HcV, HL⟩, Hscr⟩, HO, ⟨%d0, %g0, %h0, H0⟩, ⟨%d1, %g1, %h1, H1⟩, ⟨%d2, %g2, %h2, H2⟩, ⟨%d3, %g3, %h3, H3⟩, ⟨%d4, %g4, %h4, H4⟩⟩
  rw [before_0] at h0; rw [before_1] at h1; rw [before_2] at h2; rw [before_3] at h3
  subst h0 h1 h2 h3
  iexists K
  isplitl [HG]; · iexact HG
  isplitl [HcB HcV HL]
  · isplitl [HcB]; · iexact HcB
    isplitl [HcV] <;> iassumption
  isplitl [Hscr]; · iexact Hscr
  isplitl [HO]; · iapply (owes_in m ρ c); iexact HO
  isplitl [H0 H1 H2 H3]
  · isplitl [H0]; · iexact H0
    isplitl [H1]; · iexact H1
    isplitl [H2] <;> iassumption
  iexists g4; iexact H4

omit [FloatOps F] in
theorem stg_of (c : Dev nD) {b : Ref sig .tc} {X : b.ty.Contents (Elt F)} : (held c b X : sProp 𝕄) ⊢ stg c b X := by
  iintro H
  iexists X
  isplitr; · (ipureintro; rfl)
  iexact H

theorem post_join (c : Dev nD) :
    iprop(Φ₁ c ∗ owesE c 0 ∗ inputs m ρ c ∗ held c cc0_stg4_0 (outAt m ρ c)) ⊢ bodyPost m ρ c := by
  unfold bodyPost inputs
  iintro ⟨HΦ, HO, ⟨H0, H1, H2, H3⟩, H4⟩
  isplitl [HΦ]; · iexact HΦ
  isplitl [HO]; · iapply (owes_out m ρ c); iexact HO
  isplitl [H0]; · iapply (stg_of c); iexact H0
  isplitl [H1]; · iapply (stg_of c); iexact H1
  isplitl [H2]; · iapply (stg_of c); iexact H2
  isplitl [H3]; · iapply (stg_of c); iexact H3
  iapply (stg_of c); iexact H4

set_option maxRecDepth 8000 in
theorem body_pre_post (c : Dev nD) : bodyPre m ρ c ⊢ Run c (onBufs (cc0_body (F := F))) (fun _ => bodyPost m ρ c) := by
  have key := fun K => whole_body m ρ K c
  have post := post_join m ρ c
  refine (pre_split m ρ c).trans ?_
  dsimp only [onBufs] at key ⊢
  generalize cc0_body (F := F) _ _ _ _ _ _ _ _ _ _ _ _ _ _ = p at *
  iintro ⟨%K, H⟩
  iapply ((key K).trans (wp_mono _ _ _ fun _ => post))
  iexact H

set_option maxRecDepth 8000 in
theorem body_args : defs₀ (F := F) .tc cfg0.body (cfg0.bodyArgs t0_0 (cfg0.slots t0_0)) = onBufs (cc0_body (F := F)) := rfl

set_option maxRecDepth 8000 in
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  have key := body_pre_post m ρ c
  rw [← body_args] at key
  generalize defs₀ (F := F) .tc cfg0.body (cfg0.bodyArgs t0_0 (cfg0.slots t0_0)) = p at *
  exact key

/-! ## The launch theorem's side conditions -/

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  icases Hc with ⟨H1, HN⟩
  imodintro
  unfold start
  isplitl
  · isplitl [HG]; · iexact HG
    isplitl [H1]; · iexact H1
    isplitl [HN]; · iexact HN
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁
  iintro ⟨Hr, HzS, HzV, HzB⟩
  isplitl [HzB]; · iexact HzB
  isplitl [HzS HzV]
  · isplitl [HzS] <;> iassumption
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

/-- Every array of the program is at its final contents on every device. -/
def AtEnd : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with every semaphore at zero, every weakly fair execution of the thirty-two devices terminates, with
    every array at its final contents and every semaphore at zero. -/
theorem run_main : θ_run defs (onTc (τ := τ) (main (F := F))) (s₀ m ρ) (fun r => AtEnd m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ex m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The argument arrays are as they were. -/
theorem finalA_0 (c : Dev nD) : finalA m ρ c (0 : Fin 5) = m ((c : Thread nD τ).loc main_arg0) := (dats (F := F) m ρ 0 c).arrAt_in (0 : Fin 5) rfl _
theorem finalA_1 (c : Dev nD) : finalA m ρ c (1 : Fin 5) = m ((c : Thread nD τ).loc main_arg1) := (dats (F := F) m ρ 0 c).arrAt_in (1 : Fin 5) rfl _
theorem finalA_2 (c : Dev nD) : finalA m ρ c (2 : Fin 5) = m ((c : Thread nD τ).loc main_arg2) := (dats (F := F) m ρ 0 c).arrAt_in (2 : Fin 5) rfl _
theorem finalA_3 (c : Dev nD) : finalA m ρ c (3 : Fin 5) = m ((c : Thread nD τ).loc main_arg3) := (dats (F := F) m ρ 0 c).arrAt_in (3 : Fin 5) rfl _

end Cert.Exchange

end
-- ==== Proof.Frames.lean ====
/-
# The three frames

The kernel, at its own floats and over the extended reals, and the reference: each terminates without a fault, leaves its
arguments as they were, and ends with every semaphore at zero.
-/
module

public import proofs.«01_k».proof.Defs
public import proofs.«01_k».proof.Proof.Run
public import proofs.«01_k».proof.Proof.Gen.Kernel
public import proofs.«01_k».proof.Proof.Gen.ReferenceIdeal.Run
public import Idealize.ShloMosaic.Lib.Quiescent

@[expose] public section

noncomputable section

namespace Cert.Exchange

open Cert.KernelIdeal Cert.KernelIdeal.Gen
open Idealize.ShloMosaic
open Idealize.ShloMosaic.TcCoe
open Idealize.SL.Sem

variable {F : FTy → Type} [FloatOps F]

/-- The kernel's run, read at its arguments. -/
theorem run_args (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => ⟨(h.1 c (0 : Fin 5)).trans (finalA_0 m ρ c), (h.1 c (1 : Fin 5)).trans (finalA_1 m ρ c),
    (h.1 c (2 : Fin 5)).trans (finalA_2 m ρ c), (h.1 c (3 : Fin 5)).trans (finalA_3 m ρ c)⟩, h.2⟩) (run_main m ρ)

theorem frame_ideal : Cert.quiescent_KernelIdeal := fun m ρ _ => run_args (F := Ideal) m ρ

set_option maxRecDepth 8000 in
/-- The kernel and its reading over the extended reals have the same text: the same bodies, -/
theorem bodies_eq : Cert.Kernel.defs₀ (F := Bits) = Cert.KernelIdeal.defs₀ := by
  unfold Cert.Kernel.defs₀ Cert.KernelIdeal.defs₀
  congr 1
  funext l a
  rcases l with ⟨_ | _, h⟩
  · rcases a with ⟨t, s⟩; rfl
  · exact absurd h (by omega)
/-- the same table. -/
theorem tables_eq : Cert.Kernel.defs (F := Bits) = Cert.KernelIdeal.defs := by
  unfold Cert.Kernel.defs Cert.KernelIdeal.defs
  rw [bodies_eq]; rfl

set_option maxRecDepth 8000 in
theorem frame_kernel : Cert.quiescent_Kernel := fun m ρ _ => by
  rw [tables_eq]
  exact run_args (F := Bits) m ρ

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Exchange

end
-- ==== Proof.Spec.lean ====
/-
# What the program computes, as plain sums

A token `t` names an expert by the word `key t`. It is served when fewer than six earlier tokens name the same expert;
its result is then its row of the input times that expert's matrix, and otherwise it is zero. A word outside the
128 experts serves nobody.
-/
module

public import Idealize.ShloMosaic.Lib.Pointwise
public import Idealize.ShloMosaic.Lib.WordCmp

@[expose] public section

noncomputable section

namespace Cert.Exchange

open Idealize.ShloMosaic

/-- How many earlier tokens name the same expert as token `t`. -/
def prior (key : Fin 1024 → BitVec 32) (t : Fin 1024) : ℕ := (Finset.univ.filter fun c : Fin 1024 => c < t ∧ key t = key c).card

/-- The product of a token's row with an expert's matrix, at one column. -/
def product (x : Fin 1024 → Fin 256 → EReal) (w : Fin 128 → Fin 256 → Fin 512 → EReal) (t : Fin 1024) (e : Fin 128) (f : Fin 512) : EReal :=
  ∑ k : Fin 256, x t k * w e k f

/-- The result at token `t` and column `f`: the sum over the experts, of which at most one contributes. -/
def routed (key : Fin 1024 → BitVec 32) (x : Fin 1024 → Fin 256 → EReal) (w : Fin 128 → Fin 256 → Fin 512 → EReal) (t : Fin 1024) (f : Fin 512) :
    EReal :=
  ∑ e : Fin 128, if key t = BitVec.ofNat 32 e.val ∧ prior key t < 6 then product x w t e f else 0

/-- Two tokens that name the same expert and have equally many predecessors there are the same token. -/
theorem prior_inj (key : Fin 1024 → BitVec 32) (s t : Fin 1024) (hk : key s = key t) (hp : prior key s = prior key t) : s = t := by
  have main : ∀ a b : Fin 1024, a < b → key a = key b → prior key a < prior key b := by
    intro a b hab hk
    refine Finset.card_lt_card ⟨fun c hc => ?_, fun h => ?_⟩
    · simp only [Finset.mem_filter, Finset.mem_univ, true_and] at hc ⊢
      exact ⟨hc.1.trans hab, hk ▸ hc.2⟩
    · have ha : a ∈ Finset.univ.filter fun c : Fin 1024 => c < b ∧ key b = key c := by simp [hab, hk]
      have := h ha
      simp at this
  rcases lt_trichotomy s t with h | h | h
  · exact absurd hp (main s t h hk).ne
  · exact h
  · exact absurd hp (main t s h hk.symm).ne'

/-- A one-bit word, widened and read as a number, is one or zero. -/
theorem number_of_bit (b : BitVec 1) (p : Prop) [Decidable p] (h : b = 1#1 ↔ p) :
    (FloatOps.sitofp FTy.f32 (BitVec.setWidth 32 b) : Ideal .f32) = if p then (1 : EReal) else 0 := by
  show ((((BitVec.setWidth 32 b).toInt : ℝ)) : EReal) = _
  by_cases hp : p
  · rw [if_pos hp, h.2 hp]; simp
  · have hb : b = 0#1 := (show ∀ d : BitVec 1, d ≠ 1#1 → d = 0#1 by decide) b fun e => hp (h.1 e)
    rw [if_neg hp, hb]; simp

/-- A small natural, as a word read as a number, is that natural. -/
theorem number_of_nat (n : ℕ) (h : n < 2 ^ 31) : (FloatOps.sitofp FTy.f32 (BitVec.ofNat 32 n) : Ideal .f32) = ((n : ℝ) : EReal) := by
  show ((((BitVec.ofNat 32 n).toInt : ℝ)) : EReal) = _
  have : (BitVec.ofNat 32 n).toInt = (n : ℤ) := by
    exact WordCmp.toInt_ofNat_of_lt h
  rw [this]; simp

/-- Both bits are set exactly when each is. -/
theorem and_bits (a b : BitVec 1) : IntOp.andi a b = 1#1 ↔ a = 1#1 ∧ b = 1#1 := by
  revert a b; decide

/-- A decided proposition as a bit. -/
theorem bit_of (p : Prop) [Decidable p] : BitVec.ofBool (decide p) = 1#1 ↔ p := by
  by_cases h : p <;> simp [h]

/-- The bit of an equality of words. -/
theorem eq_bit (a b : BitVec 32) : IntOp.cmpi .eq a b = 1#1 ↔ a = b := by
  rw [WordCmp.cmpi_eq_eq]; exact bit_of _

end Cert.Exchange

end
-- ==== Proof.Words.lean ====
/-
# The kernel's index words and its matrices of zeros and ones

The kernel names a slot of the gather buffer by words: a floor quotient, a remainder, and a device's number counted back
from its own. Here each of these is the natural it stands for, the count of earlier tokens is `prior`, and the two
matrices of zeros and ones read at an element are tests of a token's expert and of its count.
-/
module

public import proofs.«01_k».proof.Proof.Run
public import proofs.«01_k».proof.Proof.Spec

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! ## Quotients and remainders -/

/-- The floor quotient as the program spells it, from the quotient that rounds towards zero. -/
abbrev floorQuot (n d : BitVec 32) : BitVec 32 :=
  Scalar.select
    (IntOp.andi
      (IntOp.cmpi .ne (IntOp.subi (BitVec.setWidth 32 (IntOp.cmpi .sgt n 0#32)) (BitVec.setWidth 32 (IntOp.cmpi .slt n 0#32)))
        (Scalar.subi (Scalar.extui (Scalar.cmpi .sgt d 0#32)) (Scalar.extui (Scalar.cmpi .slt d 0#32))))
      (IntOp.cmpi .ne (IntOp.remsi .vector n d) 0#32))
    (IntOp.subi (IntOp.divsi .vector n d) 1#32) (IntOp.divsi .vector n d)

/-- A divisor as the program guards it against zero. -/
abbrev guarded (d : BitVec 32) : BitVec 32 := Scalar.select (Scalar.cmpi .eq d 0#32) 1#32 d

/-- The remainder with the divisor's sign as the program spells it. -/
abbrev floorRem (n d : BitVec 32) : BitVec 32 :=
  Scalar.select
    (IntOp.andi (IntOp.xori (IntOp.cmpi .slt (IntOp.remsi .vector n (guarded d)) 0#32) (Scalar.cmpi .slt (guarded d) 0#32))
      (IntOp.cmpi .ne (IntOp.remsi .vector n (guarded d)) 0#32))
    (IntOp.addi (IntOp.remsi .vector n (guarded d)) (guarded d)) (IntOp.remsi .vector n (guarded d))

theorem quot_24 : ∀ g : Fin 768, floorQuot (BitVec.ofNat 32 g.val) 24#32 = BitVec.ofNat 32 (g.val / 24) := by decide +kernel
theorem rem_24 : ∀ g : Fin 768, floorRem (BitVec.ofNat 32 g.val) 24#32 = BitVec.ofNat 32 (g.val % 24) := by decide +kernel
theorem quot_6 : ∀ g : Fin 24, floorQuot (BitVec.ofNat 32 g.val) 6#32 = BitVec.ofNat 32 (g.val / 6) := by decide +kernel
theorem rem_6 : ∀ g : Fin 768, floorRem (BitVec.ofNat 32 g.val) 6#32 = BitVec.ofNat 32 (g.val % 6) := by decide +kernel

/-- The device's own number. -/
theorem myPos_eq : ∀ c : Dev nD, myPos c = BitVec.ofNat 32 c.val := by decide +kernel

/-- The number of the device `q` places back, counted round the ring. -/
theorem back_eq : ∀ (c q : Dev nD),
    IntOp.remsi .vector (IntOp.addi (IntOp.subi (BitVec.ofNat 32 c.val) (BitVec.ofNat 32 q.val)) 32#32) 32#32 = BitVec.ofNat 32 (c - q).val := by
  decide +kernel

/-! ## The count and the two matrices -/

/-- The experts the tokens name. -/
abbrev keys (ix : IVec S1024x1 32) (t : Fin 1024) : BitVec 32 := ix (ix2 t (0 : Fin 1))

/-- The sum of a row of the triangular matrix of equal keys is the count of earlier tokens with the same key. -/
theorem pay2_at (ix : IVec S1024x1 32) (t : Fin 1024) : k0_pay2 (F := Ideal) ix (ix2 t (0 : Fin 1)) = ((prior (keys ix) t : ℝ) : EReal) := by
  pointwise [k0_pay2, k0_pay1]
  have h : ∀ c : Fin 1024, (FloatOps.sitofp FTy.f32 (BitVec.setWidth 32 (IntOp.andi (IntOp.cmpi .slt (BitVec.ofNat 32 c.val) (BitVec.ofNat 32 t.val))
      (IntOp.cmpi .eq (ix (ix2 t (0 : Fin 1))) (ix (ix2 c (0 : Fin 1)))))) : Ideal .f32) = if c < t ∧ keys ix t = keys ix c then (1 : EReal) else 0 := fun c => by
    have hc := c.isLt
    have ht := t.isLt
    refine number_of_bit _ _ ?_
    rw [and_bits, eq_bit, WordCmp.cmpi_slt_ofNat_eq_one_iff (by omega) (by omega)]
    rfl
  rw [Finset.sum_congr rfl fun c _ => h c, Finset.sum_boole]
  unfold prior
  simp

/-- The test of a token's key and count, as a number. -/
theorem test_number (a b : BitVec 32) (p n : ℕ) (hn : n < 2 ^ 31) (q : EReal) (hq : q = ((p : ℝ) : EReal)) (w : BitVec 32)
    (hw : w = BitVec.ofNat 32 n) :
    (FloatOps.sitofp FTy.f32 (BitVec.setWidth 32 (IntOp.andi (IntOp.cmpi .eq a b)
      (BitVec.ofBool (decide (q = (FloatOps.sitofp FTy.f32 w : Ideal .f32)))))) : Ideal .f32) = if a = b ∧ p = n then (1 : EReal) else 0 := by
  subst hw hq
  refine number_of_bit _ _ ?_
  rw [and_bits, eq_bit, bit_of, number_of_nat n hn]
  simp

/-- Element `(s, k)` of the rows a device gathers for its experts: the row of the one token in slot `s`, or zero. -/
theorem pay6_at (c : Dev nD) (ix : IVec S1024x1 32) (x : FVec Ideal S1024x256 .f32) (s : Fin 24) (k : Fin 256) :
    k0_pay6 (F := Ideal) (k0_pay1 (F := Ideal) ix) (k0_pay2 (F := Ideal) ix) (iota .tc S1x24 32 [1] iota_S1x24_d1_w32) (Scalar.muli (myPos c) 4#32)
      k0_pay3 k0_pay4 k0_pay5 x (ix2 s k)
      = ∑ t : Fin 1024, (if keys ix t = BitVec.ofNat 32 (4 * c.val + s.val / 6) ∧ prior (keys ix) t = s.val % 6 then (1 : EReal) else 0) * x (ix2 t k) := by
  have hs := s.isLt
  generalize hp : k0_pay2 (F := Ideal) ix = q
  pointwise [k0_pay6, k0_pay1, k0_pay3, k0_pay4, k0_pay5]
  refine Finset.sum_congr rfl fun t _ => congrArg (· * x (ix2 t k)) ?_
  have hk : IntOp.addi (Scalar.muli (myPos c) 4#32) (floorQuot (BitVec.ofNat 32 s.val) 6#32) = BitVec.ofNat 32 (4 * c.val + s.val / 6) := by
    rw [quot_6 s, myPos_eq c, Nat.mul_comm 4]
    show BitVec.ofNat 32 c.val * BitVec.ofNat 32 4 + BitVec.ofNat 32 (s.val / 6) = _
    rw [BitVec.ofNat_add, BitVec.ofNat_mul]
  rw [← hk]
  exact test_number _ _ _ _ (by omega) _ (by rw [← hp]; exact pay2_at ix t) _ (rem_6 ⟨s.val, by omega⟩)

/-- A row of the gather buffer lies in one of the 32 blocks. -/
theorem row_dev (g : Fin 768) : g.val / 24 < nD := Nat.div_lt_of_lt_mul (show g.val < 24 * 32 from g.isLt)

/-- The device whose block lies in row `g` of the gather buffer of device `c`. -/
abbrev sender (c : Dev nD) (g : Fin 768) : Dev nD := c - (⟨g.val / 24, row_dev g⟩ : Dev nD)

/-- The kernel's word for the expert of row `g`. -/
theorem expert_word (c : Dev nD) (g : Fin 768) :
    IntOp.addi (IntOp.muli (IntOp.remsi .vector (IntOp.addi (IntOp.subi (myPos c) (floorQuot (BitVec.ofNat 32 g.val) 24#32)) 32#32) 32#32) 4#32)
      (floorQuot (floorRem (BitVec.ofNat 32 g.val) 24#32) 6#32) = BitVec.ofNat 32 (4 * (sender c g).val + g.val % 24 / 6) := by
  rw [quot_24 g, rem_24 g, quot_6 ⟨g.val % 24, Nat.mod_lt _ (by decide)⟩, myPos_eq c, back_eq c ⟨g.val / 24, row_dev g⟩, Nat.mul_comm 4]
  show BitVec.ofNat 32 (sender c g).val * BitVec.ofNat 32 4 + BitVec.ofNat 32 (g.val % 24 / 6) = _
  rw [BitVec.ofNat_add, BitVec.ofNat_mul]

/-- Element `(t, g)` of the matrix that sends the rows back: one where row `g` is the row of token `t`. -/
theorem permOf_at (c : Dev nD) (ix : IVec S1024x1 32) (t : Fin 1024) (g : Fin 768) :
    permOf (F := Ideal) c ix (ix2 t g)
      = if keys ix t = BitVec.ofNat 32 (4 * (sender c g).val + g.val % 24 / 6) ∧ prior (keys ix) t = g.val % 6 then (1 : EReal) else 0 := by
  have hg := g.isLt
  unfold permOf
  generalize hp : k0_pay2 (F := Ideal) ix = q
  pointwise [k0_pay12, k0_pay11, k0_pay10, k0_pay1]
  rw [← expert_word c g]
  exact test_number _ _ _ _ (by omega) _ (by rw [← hp]; exact pay2_at ix t) _ (rem_6 g)

end Cert.Exchange

end
-- ==== Proof.Slots.lean ====
/-
# The slots of the gather buffer

Row `g` of the gather buffer of device `c` belongs to one expert and one place among that expert's first six tokens, and
every expert and place has one row. So the sum over the rows is a sum over the experts.
-/
module

public import proofs.«01_k».proof.Proof.Words

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The expert of row `g`, and the place among its tokens. -/
def slotOf (c : Dev nD) (g : Fin 768) : Fin 128 × Fin 6 :=
  (⟨4 * (sender c g).val + g.val % 24 / 6, by have := (sender c g).isLt; have h : nD = 32 := rfl; omega⟩, ⟨g.val % 6, Nat.mod_lt _ (by decide)⟩)

/-- Taking numbers back round the ring loses nothing. -/
theorem back_inj : ∀ c p q : Dev nD, c - p = c - q → p = q := by decide +kernel

/-- Every expert and place has exactly one row. -/
theorem slotOf_bijective (c : Dev nD) : Function.Bijective (slotOf c) := by
  refine (Fintype.bijective_iff_injective_and_card _).2 ⟨fun g h e => ?_, by simp⟩
  have h1 : 4 * (sender c g).val + g.val % 24 / 6 = 4 * (sender c h).val + h.val % 24 / 6 := congrArg (fun p => p.1.val) e
  have h2 : g.val % 6 = h.val % 6 := congrArg (fun p => p.2.val) e
  have hs : (sender c g) = (sender c h) := Fin.ext (by omega)
  have hq : g.val / 24 = h.val / 24 := congrArg Fin.val (back_inj c _ _ hs)
  rw [hs] at h1
  exact Fin.ext (by omega)

variable (key : Fin 1024 → BitVec 32) (x : Fin 1024 → Fin 256 → EReal) (w : Fin 128 → Fin 256 → Fin 512 → EReal)

/-- A slot's row is the row of the one token that has this expert and this place, so that token gets its own product back
and every other token gets zero. -/
theorem slot_product (t : Fin 1024) (e : Fin 128) (j : ℕ) (f : Fin 512) :
    (if key t = BitVec.ofNat 32 e.val ∧ prior key t = j then (1 : EReal) else 0)
      * ∑ k : Fin 256, (∑ s : Fin 1024, (if key s = BitVec.ofNat 32 e.val ∧ prior key s = j then (1 : EReal) else 0) * x s k) * w e k f
      = if key t = BitVec.ofNat 32 e.val ∧ prior key t = j then product x w t e f else 0 := by
  by_cases h : key t = BitVec.ofNat 32 e.val ∧ prior key t = j
  · rw [if_pos h, if_pos h, one_mul]
    unfold product
    refine Finset.sum_congr rfl fun k _ => congrArg (· * w e k f) ?_
    rw [Finset.sum_eq_single t (fun s _ hs => ?_) (fun hn => absurd (Finset.mem_univ _) hn), if_pos h, one_mul]
    rw [if_neg (fun hc => hs (prior_inj key s t (hc.1.trans h.1.symm) (hc.2.trans h.2.symm))), zero_mul]
  · rw [if_neg h, if_neg h, zero_mul]

/-- The six places of an expert: a token is served in one of them when it has fewer than six predecessors. -/
theorem places (t : Fin 1024) (e : Fin 128) (z : EReal) :
    ∑ j : Fin 6, (if key t = BitVec.ofNat 32 e.val ∧ prior key t = j.val then z else 0)
      = if key t = BitVec.ofNat 32 e.val ∧ prior key t < 6 then z else 0 := by
  by_cases h : key t = BitVec.ofNat 32 e.val ∧ prior key t < 6
  · rw [if_pos h, Finset.sum_eq_single ⟨prior key t, h.2⟩ (fun j _ hj => if_neg fun hc => hj (Fin.ext hc.2.symm))
      (fun hn => absurd (Finset.mem_univ _) hn), if_pos ⟨h.1, rfl⟩]
  · rw [if_neg h]
    exact Finset.sum_eq_zero fun j _ => if_neg fun hc => h ⟨hc.1, lt_of_eq_of_lt hc.2 j.isLt⟩

/-- The sum over the rows of the gather buffer is the routed result. -/
theorem rows_sum (c : Dev nD) (t : Fin 1024) (f : Fin 512) :
    ∑ g : Fin 768, (if key t = BitVec.ofNat 32 (slotOf c g).1.val ∧ prior key t = (slotOf c g).2.val then (1 : EReal) else 0)
      * ∑ k : Fin 256, (∑ s : Fin 1024, (if key s = BitVec.ofNat 32 (slotOf c g).1.val ∧ prior key s = (slotOf c g).2.val then (1 : EReal) else 0) * x s k)
        * w (slotOf c g).1 k f
      = routed key x w t f := by
  rw [Finset.sum_congr rfl fun g _ => slot_product key x w t (slotOf c g).1 (slotOf c g).2.val f,
    Function.Bijective.sum_comp (slotOf_bijective c) (fun p : Fin 128 × Fin 6 =>
      if key t = BitVec.ofNat 32 p.1.val ∧ prior key t = p.2.val then product x w t p.1 f else 0), Fintype.sum_prod_type]
  exact Finset.sum_congr rfl fun e _ => places key t e _

end Cert.Exchange

end
-- ==== Proof.Value.lean ====
/-
# What the kernel computes

The block a device sends, the gather buffer and the result, each read at an element over the extended reals. The result
is `routed` of the tokens' experts, the input and the experts' matrices.
-/
module

public import proofs.«01_k».proof.Proof.Slots

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! ## One device's block -/

/-- Matrix `j` of the four a device holds, loaded. -/
theorem wLoad_at (w : FVec Ideal S4x256x512 .f32) (j : ℕ) (h : ∀ a, (![j, 0, 0] : Fin 3 → Nat) a + S1x256x512.size a ≤ S4x256x512.size a)
    (hj : j < 4) (k : Fin 256) (f : Fin 512) :
    wLoad (F := Ideal) w j h (ix3 (0 : Fin 1) k f) = w (ix3 (⟨j, hj⟩ : Fin 4) k f) := by
  refine congrArg w (funext fun a => Fin.ext ?_)
  match a with
  | ⟨0, _⟩ => show j + 1 * 0 = j; omega
  | ⟨1, _⟩ => show 0 + 1 * k.val = k.val; omega
  | ⟨2, _⟩ => show 0 + 1 * f.val = f.val; omega

/-- The rows a device gathers for its experts. -/
abbrev gathered (c : Dev nD) (ix : IVec S1024x1 32) (x : FVec Ideal S1024x256 .f32) : FVec Ideal S24x256 .f32 :=
  k0_pay6 (F := Ideal) (k0_pay1 (F := Ideal) ix) (k0_pay2 (F := Ideal) ix) (iota .tc S1x24 32 [1] iota_S1x24_d1_w32) (Scalar.muli (myPos c) 4#32)
    k0_pay3 k0_pay4 k0_pay5 x

/-- Six of the gathered rows times one matrix. -/
abbrev six (y : FVec Ideal S6x256 .f32) (v : Vec Ideal S1x256x512 .f32) : FVec Ideal S6x512 .f32 :=
  matmul (φ₂ := .f32) dot_S6x256_S256x512_S6x512_1_0_0_1_n_n none y (shapeCast S256x512 v shapeCasts_S1x256x512_S256x512) (constant S6x512 .f32 0x00000000#32)

/-- Each six of the gathered rows times the matrix of their expert, stacked: row `s` meets matrix `s / 6`. -/
theorem stacked_at (y : FVec Ideal S24x256 .f32) (v : Fin 4 → Vec Ideal S1x256x512 .f32) (v0 v1 v2 v3 : Vec Ideal S1x256x512 .f32)
    (e0 : v0 = v 0) (e1 : v1 = v 1) (e2 : v2 = v 2) (e3 : v3 = v 3) (s : Fin 24) (f : Fin 512) :
    k0_pay9 (F := Ideal) y (six (extractStridedSlice S6x256 ![0, 0] y slices_S24x256_o0_0_S6x256) v0)
      (extractStridedSlice S6x256 ![6, 0] y slices_S24x256_o6_0_S6x256) v1 v2 v3 (ix2 s f)
      = ∑ k : Fin 256, y (ix2 s k) * v (⟨s.val / 6, by omega⟩ : Fin 4) (ix3 (0 : Fin 1) k f) := by
  subst e0 e1 e2 e3
  have hs := s.isLt
  pointwise [k0_pay9, six]
  have row : ∀ (n : ℕ) (hn : n < 24) (j : Fin 4), n = s.val → j.val = s.val / 6 →
      ∑ k : Fin 256, y (ix2 (⟨n, hn⟩ : Fin 24) k) * v j (ix3 (0 : Fin 1) k f)
        = ∑ k : Fin 256, y (ix2 s k) * v (⟨s.val / 6, by omega⟩ : Fin 4) (ix3 (0 : Fin 1) k f) := by
    intro n hn j hns hjs
    subst hns
    rw [show j = ⟨s.val / 6, by omega⟩ from Fin.ext hjs]
  by_cases h0 : s.val < 6
  · rw [dif_pos h0]; exact row s.val _ 0 rfl (by show 0 = s.val / 6; omega)
  rw [dif_neg h0]
  by_cases h1 : s.val - 6 < 6
  · rw [dif_pos h1]; exact row (6 + (s.val - 6)) _ 1 (by omega) (by show 1 = s.val / 6; omega)
  rw [dif_neg h1]
  by_cases h2 : s.val - 6 - 6 < 6
  · rw [dif_pos h2]; exact row (12 + (s.val - 6 - 6)) _ 2 (by omega) (by show 2 = s.val / 6; omega)
  rw [dif_neg h2]
  exact row (18 + (s.val - 6 - 6 - 6)) _ 3 (by omega) (by show 3 = s.val / 6; omega)

/-- The four matrices a device loads. -/
def loaded (w : FVec Ideal S4x256x512 .f32) (j : Fin 4) : Vec Ideal S1x256x512 .f32 :=
  match j with
  | ⟨0, _⟩ => wLoad (F := Ideal) w 0 inb_S4x256x512_S1x256x512_0_0_0
  | ⟨1, _⟩ => wLoad (F := Ideal) w 1 inb_S4x256x512_S1x256x512_1_0_0
  | ⟨2, _⟩ => wLoad (F := Ideal) w 2 inb_S4x256x512_S1x256x512_2_0_0
  | ⟨3, _⟩ => wLoad (F := Ideal) w 3 inb_S4x256x512_S1x256x512_3_0_0

theorem loaded_at (w : FVec Ideal S4x256x512 .f32) (j : Fin 4) (k : Fin 256) (f : Fin 512) : loaded w j (ix3 (0 : Fin 1) k f) = w (ix3 j k f) := by
  match j with
  | ⟨0, h⟩ => exact wLoad_at w 0 _ h k f
  | ⟨1, h⟩ => exact wLoad_at w 1 _ h k f
  | ⟨2, h⟩ => exact wLoad_at w 2 _ h k f
  | ⟨3, h⟩ => exact wLoad_at w 3 _ h k f

/-- Row `s` of a device's block is the gathered row times the matrix of its expert. -/
theorem block_at (c : Dev nD) (ix : IVec S1024x1 32) (x : FVec Ideal S1024x256 .f32) (w : FVec Ideal S4x256x512 .f32) (s : Fin 24) (f : Fin 512) :
    blockOf (F := Ideal) c x ix w (ix2 s f)
      = ∑ k : Fin 256, gathered c ix x (ix2 s k) * w (ix3 (⟨s.val / 6, by omega⟩ : Fin 4) k f) := by
  have h := stacked_at (gathered c ix x) (loaded w) (wLoad (F := Ideal) w 0 inb_S4x256x512_S1x256x512_0_0_0)
    (wLoad (F := Ideal) w 1 inb_S4x256x512_S1x256x512_1_0_0) (wLoad (F := Ideal) w 2 inb_S4x256x512_S1x256x512_2_0_0)
    (wLoad (F := Ideal) w 3 inb_S4x256x512_S1x256x512_3_0_0) rfl rfl rfl rfl s f
  rw [Finset.sum_congr rfl fun k _ => congrArg (gathered c ix x (ix2 s k) * ·) (loaded_at w _ k f)] at h
  exact h

/-! ## The gather buffer and the result -/

/-- The result's matrix product, read at an element: the sum over all rows of the gather buffer. -/
theorem halves_at (P : FVec Ideal S1024x768 .bf16) (g : Fin 768 → Fin 512 → EReal) (u v : Vec Ideal S384x512 .bf16)
    (hu : ∀ (r : Fin 384) (f : Fin 512), u (ix2 r f) = g (⟨r.val, by omega⟩ : Fin 768) f)
    (hv : ∀ (r : Fin 384) (f : Fin 512), v (ix2 r f) = g (⟨384 + r.val, by omega⟩ : Fin 768) f) (t : Fin 1024) (f : Fin 512) :
    k0_pay14 (F := Ideal) P (k0_pay13 (F := Ideal) P u) v (ix2 t f) = ∑ r : Fin 768, P (ix2 t r) * g r f := by
  pointwise [k0_pay14, k0_pay13]
  rw [show (∑ r : Fin 768, P (ix2 t r) * g r f) = ∑ r : Fin (384 + 384), P (ix2 t (⟨r.val, r.isLt⟩ : Fin 768)) * g ⟨r.val, r.isLt⟩ f from rfl,
    Fin.sum_univ_add]
  refine congrArg₂ (· + ·) (Finset.sum_congr rfl fun r _ => ?_) (Finset.sum_congr rfl fun r _ => ?_)
  · rw [hu r f]; rfl
  · rw [hv r f]; rfl

variable (m : (ℓ : Loc nD τ sig) → Buf (Elt Ideal) ℓ) (ρ : Dev nD → PrngReg)

/-- Row `g` of the gather buffer is a row of its sender's block. -/
theorem gath_at (c : Dev nD) (g : Fin 768) (f : Fin 512) :
    gath m ρ c (ix2 g f) = yc m ρ (sender c g) (ix2 (⟨g.val % 24, Nat.mod_lt _ (by decide)⟩ : Fin 24) f) := by
  refine congrArg (yc m ρ (sender c g)) (funext fun a => ?_)
  match a with
  | ⟨0, _⟩ => rfl
  | ⟨1, _⟩ => rfl

theorem lower_at (c : Dev nD) (r : Fin 384) (f : Fin 512) :
    rowsAt m ρ c 0 inb_S768x512_S384x512_0_0 (ix2 r f) = gath m ρ c (ix2 (⟨r.val, by omega⟩ : Fin 768) f) := by
  refine congrArg (gath m ρ c) (funext fun a => Fin.ext ?_)
  match a with
  | ⟨0, _⟩ => show 0 + 1 * r.val = r.val; omega
  | ⟨1, _⟩ => show 0 + 1 * f.val = f.val; omega

theorem upper_at (c : Dev nD) (r : Fin 384) (f : Fin 512) :
    rowsAt m ρ c 384 inb_S768x512_S384x512_384_0 (ix2 r f) = gath m ρ c (ix2 (⟨384 + r.val, by omega⟩ : Fin 768) f) := by
  refine congrArg (gath m ρ c) (funext fun a => Fin.ext ?_)
  match a with
  | ⟨0, _⟩ => show 384 + 1 * r.val = 384 + r.val; omega
  | ⟨1, _⟩ => show 0 + 1 * f.val = f.val; omega

/-- When every device holds the same input and the same experts per token, and its own four of the matrices, what every
device leaves in its result is `routed`. -/
theorem outAt_at (ix : IVec S1024x1 32) (x : FVec Ideal S1024x256 .f32) (w : Fin 128 → Fin 256 → Fin 512 → EReal)
    (hi : ∀ c, istg m ρ c = ix) (hx : ∀ c, xstg m ρ c = x)
    (hw : ∀ (c : Dev nD) (j : Fin 4) (k : Fin 256) (f : Fin 512) (h : 4 * c.val + j.val < 128), wstg m ρ c (ix3 j k f) = w ⟨4 * c.val + j.val, h⟩ k f)
    (c : Dev nD) (t : Fin 1024) (f : Fin 512) :
    @Eq EReal (outAt m ρ c (ix2 t f)) (routed (keys ix) (fun t k => x (ix2 t k)) w t f) := by
  have e1 : @Eq EReal (outAt m ρ c (ix2 t f)) (∑ g : Fin 768, (permOf (F := Ideal) c (istg m ρ c) (ix2 t g) : EReal) * (gath m ρ c (ix2 g f) : EReal)) :=
    halves_at (permOf (F := Ideal) c (istg m ρ c)) (fun g f => gath m ρ c (ix2 g f)) _ _ (lower_at m ρ c) (upper_at m ρ c) t f
  rw [e1, ← rows_sum (keys ix) (fun t k => x (ix2 t k)) w c t f, hi c]
  refine Finset.sum_congr rfl fun g _ => ?_
  have hm : g.val % 24 % 6 = g.val % 6 := by omega
  have e2 : @Eq EReal (gath m ρ c (ix2 g f)) (∑ k : Fin 256, (∑ s : Fin 1024, (if keys ix s = BitVec.ofNat 32 (slotOf c g).1.val ∧ prior (keys ix) s = (slotOf c g).2.val then (1 : EReal) else 0)
      * x (ix2 s k)) * w (slotOf c g).1 k f) := by
    rw [gath_at m ρ c g f]
    unfold yc
    rw [hi, hx]
    refine (block_at (sender c g) ix x (wstg m ρ (sender c g)) ⟨g.val % 24, Nat.mod_lt _ (by decide)⟩ f).trans (Finset.sum_congr rfl fun k _ => ?_)
    refine congrArg₂ (· * ·) ?_ (hw (sender c g) ⟨g.val % 24 / 6, by omega⟩ k f (slotOf c g).1.isLt)
    refine (pay6_at (sender c g) ix x ⟨g.val % 24, Nat.mod_lt _ (by decide)⟩ k).trans (Finset.sum_congr rfl fun s _ => ?_)
    rw [show (⟨g.val % 24, Nat.mod_lt _ (by decide)⟩ : Fin 24).val % 6 = (slotOf c g).2.val from hm]
    rfl
  rw [e2]
  exact congrArg (· * _) (permOf_at c ix t g)

end Cert.Exchange

end
-- ==== Proof.Reference.lean ====
/-
# What the reference computes

The reference counts, down each expert's column, how many tokens up to a token name that expert, keeps the first six,
and sums the products it keeps over the experts. Read at an element it is `routed`.
-/
module

public import proofs.«01_k».proof.Proof.Gen.ReferenceIdeal.Run
public import proofs.«01_k».proof.Proof.Spec
public import Idealize.ShloMosaic.Lib.Routing.Ops
public import Idealize.ShloMosaic.Lib.Routing.OpsPair

@[expose] public section

noncomputable section

namespace Cert.Exchange

open Cert.ReferenceIdeal Cert.ReferenceIdeal.Gen
open Idealize.ShloMosaic
open Idealize.ShloMosaic.TcCoe

/-! ## The running count -/

/-- One where token `n` names expert `e`, and zero elsewhere. -/
def mark (key : Fin 1024 → BitVec 32) (e : Fin 128) (n : ℕ) : ℕ :=
  if h : n < 1024 then if key ⟨n, h⟩ = BitVec.ofNat 32 e.val then 1 else 0 else 0

/-- The windowed sum down a column of marks counts the marks up to and including the row it is read at. -/
theorem running_count (key : Fin 1024 → BitVec 32) (picks : IVec S1024x128 32) (zero : IVec S_ 32)
    (hp : ∀ (t : Fin 1024) (e : Fin 128), picks (ix2 t e) = BitVec.ofNat 32 (mark key e t.val)) (hz : zero ix0 = 0#32)
    (t : Fin 1024) (e : Fin 128) :
    Host.reduceWindow IntOp.addi ![1024, 1] ![1, 1] ![1023, 0] ![0, 0] picks zero
      reduceWindows_S1024x128_S1024x128_w1024s1p1023_0_w1s1p0_0 h_S_ (ix2 t e)
      = BitVec.ofNat 32 (∑ n ∈ Finset.range (t.val + 1), mark key e n) := by
  have ht := t.isLt
  have hn : (⟨2, ![1024, 1]⟩ : Shape).numel = 1024 := by decide
  unfold Host.reduceWindow
  refine (Routing.foldl_addi_ofNat _ _ (fun n => if 1023 ≤ t.val + n.val then mark key e (t.val + n.val - 1023) else 0) (fun n _ => ?_) _ 0
    ((congrArg zero (funext fun a => Fin.elim0 a)).trans hz)).trans ?_
  · have hlt : n.val < 1024 := lt_of_lt_of_eq n.isLt hn
    have hs := Routing.symm22 (A := 1024) (B := 1) n (by simpa using hlt) (Nat.mod_lt _ (by decide))
    have w0 : ((⟨2, ![1024, 1]⟩ : Shape).rowMajor.symm n 0).val = n.val := by rw [hs]; show n.val / 1 = n.val; simp
    have w1 : ((⟨2, ![1024, 1]⟩ : Shape).rowMajor.symm n 1).val = 0 := by rw [hs]; show n.val % 1 = 0; omega
    dsimp only
    split
    · next hin =>
      have h0 := hin 0
      change 1023 ≤ t.val * 1 + ((⟨2, ![1024, 1]⟩ : Shape).rowMajor.symm n 0).val ∧ t.val * 1 + ((⟨2, ![1024, 1]⟩ : Shape).rowMajor.symm n 0).val - 1023 < 1024 at h0
      rw [w0] at h0
      rw [if_pos (by omega)]
      refine (congrArg picks (funext fun a => Fin.ext ?_)).trans (hp ⟨t.val + n.val - 1023, by omega⟩ e)
      match a with
      | ⟨0, _⟩ =>
        show t.val * 1 + ((⟨2, ![1024, 1]⟩ : Shape).rowMajor.symm n 0).val - 1023 = t.val + n.val - 1023
        rw [w0, Nat.mul_one]
      | ⟨1, _⟩ =>
        show e.val * 1 + ((⟨2, ![1024, 1]⟩ : Shape).rowMajor.symm n 1).val - 0 = e.val
        rw [w1]; omega
    · next hin =>
      rw [if_neg fun hle => hin fun a => by
        match a with
        | ⟨0, _⟩ =>
          show 1023 ≤ t.val * 1 + ((⟨2, ![1024, 1]⟩ : Shape).rowMajor.symm n 0).val ∧ t.val * 1 + ((⟨2, ![1024, 1]⟩ : Shape).rowMajor.symm n 0).val - 1023 < 1024
          rw [w0]; omega
        | ⟨1, _⟩ =>
          have he := e.isLt
          show 0 ≤ e.val * 1 + ((⟨2, ![1024, 1]⟩ : Shape).rowMajor.symm n 1).val ∧ e.val * 1 + ((⟨2, ![1024, 1]⟩ : Shape).rowMajor.symm n 1).val - 0 < 128
          rw [w1]; omega]
      exact (congrArg zero (funext fun a => Fin.elim0 a)).trans hz
  · rw [Nat.zero_add, Routing.map_finRange_val _ (fun n => if 1023 ≤ t.val + n then mark key e (t.val + n - 1023) else 0)]
    refine congrArg (BitVec.ofNat 32) ?_
    rw [hn]
    exact Routing.sum_window (mark key e) 1023 t.val (by omega)

/-- Up to a token of its own expert the marks are its predecessors there and itself. -/
theorem count_of_own (key : Fin 1024 → BitVec 32) (t : Fin 1024) (e : Fin 128) (h : key t = BitVec.ofNat 32 e.val) :
    ∑ n ∈ Finset.range (t.val + 1), mark key e n = prior key t + 1 := by
  have ht := t.isLt
  rw [Finset.sum_range_succ]
  congr 1
  · have hf : ∀ c : Fin 1024, (if c < t ∧ key t = key c then 1 else 0) = (if c.val < t.val then mark key e c.val else 0) := by
      intro c
      have hm : mark key e c.val = if key c = BitVec.ofNat 32 e.val then 1 else 0 := dif_pos c.isLt
      rw [hm, h]
      by_cases hc : c.val < t.val
      · have hc' : c < t := hc
        simp only [hc, hc', true_and, if_true, eq_comm]
      · have hc' : ¬ c < t := hc
        simp only [hc, hc', false_and, if_false]
    unfold prior
    rw [Finset.card_filter, Finset.sum_congr rfl fun c _ => hf c,
      Fin.sum_univ_eq_sum_range (fun n => if n < t.val then mark key e n else 0) 1024, ← Finset.sum_filter]
    refine (Finset.sum_congr ?_ fun _ _ => rfl)
    ext n; simp only [Finset.mem_range, Finset.mem_filter]; omega
  · unfold mark; rw [dif_pos ht, if_pos h]

/-! ## The whole term -/

/-- The reference's result as a term of its arguments. -/
def refOut (x : FVec Ideal S1024x256 .f32) (ix : IVec S1024x1 32) (w : FVec Ideal S128x256x512 .f32) : FVec Ideal S1024x512 .f32 :=
Host.reduceAdd (select (broadcastInDim S1024x128x512 ![0, 1, 2] bcast_S1024x128x1_S1024x128x512_0_1_2 (broadcastInDim S1024x128x1 ![0, 1] bcast_S1024x128_S1024x128x1_0_1 (andi (cmpi .eq (extui 32 (cmpi .eq (broadcastInDim S1024x128 ![0, 1] bcast_S1024x1_S1024x128_0_1 ix) (broadcastInDim S1024x128 ![0, 1] bcast_S1x128_S1024x128_0_1 (broadcastInDim S1x128 ![1] bcast_S128_S1x128_1 (iotaInDim S128 32 0)))) natLt_1_32) (broadcastInDim S1024x128 ![] bcast_S_S1024x128 (constantI S_ 32 1#32))) (cmpi .slt (subi (Host.reduceWindow IntOp.addi ![1024, 1] ![1, 1] ![1023, 0] ![0, 0] (extui 32 (cmpi .eq (broadcastInDim S1024x128 ![0, 1] bcast_S1024x1_S1024x128_0_1 ix) (broadcastInDim S1024x128 ![0, 1] bcast_S1x128_S1024x128_0_1 (broadcastInDim S1x128 ![1] bcast_S128_S1x128_1 (iotaInDim S128 32 0)))) natLt_1_32) (broadcastInDim S_ ![] bcast_S_S_ (constantI S_ 32 0#32)) reduceWindows_S1024x128_S1024x128_w1024s1p1023_0_w1s1p0_0 h_S_) (extui 32 (cmpi .eq (broadcastInDim S1024x128 ![0, 1] bcast_S1024x1_S1024x128_0_1 ix) (broadcastInDim S1024x128 ![0, 1] bcast_S1x128_S1024x128_0_1 (broadcastInDim S1x128 ![1] bcast_S128_S1x128_1 (iotaInDim S128 32 0)))) natLt_1_32)) (broadcastInDim S1024x128 ![] bcast_S_S1024x128 (constantI S_ 32 6#32)))))) (Host.dotGeneral dot_S1024x256_S128x256x512_S1024x128x512_1_1_0_02_n_n none x w) (broadcastInDim S1024x128x512 ![] bcast_S_S1024x128x512 (id (constant S_ .f32 0x00000000#32)))) (constant S_ .f32 0x00000000#32) reducesTo_S1024x128x512_S1024x512_d1 h_S_

/-- There are at most 1024 predecessors. -/
theorem prior_le (key : Fin 1024 → BitVec 32) (t : Fin 1024) : prior key t ≤ 1024 :=
  (Finset.card_le_univ _).trans (by simp)

/-- The reference's test of a token and an expert: it is that expert's token and has fewer than six predecessors there. -/
theorem kept_bit (key : Fin 1024 → BitVec 32) (t : Fin 1024) (e : Fin 128) (b : BitVec 1) (hb : b = 1#1 ↔ key t = BitVec.ofNat 32 e.val) :
    IntOp.andi (IntOp.cmpi .eq (BitVec.setWidth 32 b) 1#32)
      (IntOp.cmpi .slt (IntOp.subi (BitVec.ofNat 32 (∑ n ∈ Finset.range (t.val + 1), mark key e n)) (BitVec.setWidth 32 b)) 6#32) = 1#1
      ↔ key t = BitVec.ofNat 32 e.val ∧ prior key t < 6 := by
  rw [and_bits, eq_bit]
  have h1 : BitVec.setWidth 32 b = 1#32 ↔ b = 1#1 := (show ∀ d : BitVec 1, BitVec.setWidth 32 d = 1#32 ↔ d = 1#1 by decide) b
  rw [h1, hb]
  refine and_congr_right fun hk => ?_
  have hbit := h1.2 (hb.2 hk)
  have hle := prior_le key t
  rw [count_of_own key t e hk, hbit]
  have hs : IntOp.subi (BitVec.ofNat 32 (prior key t + 1)) 1#32 = BitVec.ofNat 32 (prior key t) := by
    show BitVec.ofNat 32 (prior key t + 1) - 1#32 = _
    rw [BitVec.ofNat_add]; exact BitVec.add_sub_cancel _ _
  rw [hs]
  exact WordCmp.cmpi_slt_ofNat_eq_one_iff (by omega) (by decide)

/-- The reference's result at an element. -/
theorem refOut_at (x : FVec Ideal S1024x256 .f32) (ix : IVec S1024x1 32) (w : FVec Ideal S128x256x512 .f32) (t : Fin 1024) (f : Fin 512) :
    refOut x ix w (ix2 t f) = routed (fun t => ix (ix2 t (0 : Fin 1))) (fun t k => x (ix2 t k)) (fun e k f => w (ix3 e k f)) t f := by
  pointwise [refOut]
  unfold routed product
  refine Finset.sum_congr rfl fun e _ => ?_
  rw [running_count (fun t => ix (ix2 t (0 : Fin 1))) _ _ (fun t e => ?_) rfl t e]
  · have hk := kept_bit (fun t => ix (ix2 t (0 : Fin 1))) t e _ (eq_bit (ix (ix2 t (0 : Fin 1))) (BitVec.ofNat 32 e.val))
    by_cases h : ix (ix2 t (0 : Fin 1)) = BitVec.ofNat 32 e.val ∧ prior (fun t => ix (ix2 t (0 : Fin 1))) t < 6
    · rw [if_pos h, WordCmp.select_of_eq_one (hk.2 h)]
    · rw [if_neg h, WordCmp.select_of_eq_zero ((show ∀ d : BitVec 1, d ≠ 1#1 → d = 0#1 by decide) _ fun c => h (hk.1 c))]
      exact Ideal.ofBits_zero_f32
  · pointwise
    unfold mark
    rw [dif_pos t.isLt]
    by_cases h : ix (ix2 t (0 : Fin 1)) = BitVec.ofNat 32 e.val
    · rw [(eq_bit _ _).2 h, if_pos h]; rfl
    · rw [(show ∀ d : BitVec 1, d ≠ 1#1 → d = 0#1 by decide) _ fun c => h ((eq_bit _ _).1 c), if_neg h]; rfl

end Cert.Exchange

end
-- ==== Proof.Algebraic.lean ====
/-
# The kernel and the reference compute one function

Over the extended reals every device's result ends at the reference's result.
-/
module

public import proofs.«01_k».proof.Defs
public import proofs.«01_k».proof.Proof.Value
public import proofs.«01_k».proof.Proof.Reference

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! ## Each window's one block is its whole array -/

section
variable {F : FTy → Type} [FloatOps F]
variable (m : (ℓ : Loc nD τ sig) → Buf (Elt F) ℓ) (ρ : Dev nD → PrngReg)

/-- The tokens a device reads are its first argument. -/
theorem xstg_eq (c : Dev nD) : xstg m ρ c = m ((c : Thread nD τ).loc main_arg0) :=
  Memref.read_access_unit_zero (Elt F) main_arg0
    (show (fun a => (win0_0.index (0 : Fin 1)) a * main_arg0.ty.shape.size a) = fun _ => 0 from funext fun a => by fin_cases a <;> decide)
    (fun a => by fin_cases a <;> decide) _

/-- The routing it reads is its third argument. -/
theorem istg_eq (c : Dev nD) : istg m ρ c = m ((c : Thread nD τ).loc main_arg2) :=
  Memref.read_access_unit_zero (Elt F) main_arg2
    (show (fun a => (win0_2.index (0 : Fin 1)) a * main_arg2.ty.shape.size a) = fun _ => 0 from funext fun a => by fin_cases a <;> decide)
    (fun a => by fin_cases a <;> decide) _

/-- The matrices it reads are its fourth argument. -/
theorem wstg_eq (c : Dev nD) : wstg m ρ c = m ((c : Thread nD τ).loc main_arg3) :=
  Memref.read_access_unit_zero (Elt F) main_arg3
    (show (fun a => (win0_3.index (0 : Fin 1)) a * main_arg3.ty.shape.size a) = fun _ => 0 from funext fun a => by fin_cases a <;> decide)
    (fun a => by fin_cases a <;> decide) _

/-- The result array ends at what the device leaves in its result buffer. -/
theorem finalA_4 (c : Dev nD) : finalA m ρ c (4 : Fin 5) = outAt m ρ c := by
  have h : (win0_4.blk (0 : Fin 1)).view.read (Elt F) (finalA m ρ c (4 : Fin 5)) = outAt m ρ c := by
    unfold finalA
    rw [show cfg0.N = ((0 : Fin 1) : Fin cfg0.N).val + 1 from rfl, (dats m ρ 0 c).arrAt_succ (4 : Fin 5) (0 : Fin 1)]
    rw [show (cfg0.win (4 : Fin 5)).flush (0 : Fin 1) = true from by decide, if_pos rfl]
    exact View.read_write_univ _ _
  exact (Memref.read_access_unit_zero (Elt F) main_v1
    (show (fun a => (win0_4.index (0 : Fin 1)) a * main_v1.ty.shape.size a) = fun _ => 0 from funext fun a => by fin_cases a <;> decide)
    (fun a => by fin_cases a <;> decide) _).symm.trans h

/-- The kernel's run, read at its result and its arguments. -/
theorem run_value : θ_run defs (onTc (τ := τ) (main (F := F))) ⟨m, fun _ => 0, ρ⟩ (fun r => ∀ c : Dev nD,
      r.2.mem ((c.tc : Thread nD τ).loc main_v1) = outAt m ρ c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h.1 c (4 : Fin 5)).trans (finalA_4 m ρ c), (h.1 c (0 : Fin 5)).trans (finalA_0 m ρ c),
    (h.1 c (1 : Fin 5)).trans (finalA_1 m ρ c), (h.1 c (2 : Fin 5)).trans (finalA_2 m ρ c), (h.1 c (3 : Fin 5)).trans (finalA_3 m ρ c)⟩)
    (run_main m ρ)
end

/-! ## The equation -/

variable (m : (ℓ : Loc nD τ sig) → Buf (Elt Ideal) ℓ) (ρ : Dev nD → PrngReg)

/-- Matrix `j` of device `c`'s block is matrix `4 c + j` of the whole. -/
theorem block_of (W : FVec Ideal ⟨3, ![128, 256, 512]⟩ .f32) (c : Dev nD) (j : Fin 4) (k : Fin 256) (f : Fin 512) (h : 4 * c.val + j.val < 128) :
    Layout.block ⟨3, ![4, 256, 512]⟩ ⟨3, ![128, 256, 512]⟩ 0 32 c W (by decide) (ix3 j k f) = W (ix3 (⟨4 * c.val + j.val, h⟩ : Fin 128) k f) := by
  refine congrArg W (funext fun a => Fin.ext ?_)
  match a with
  | ⟨0, _⟩ => show c.val * 4 + j.val = 4 * c.val + j.val; omega
  | ⟨1, _⟩ => rfl
  | ⟨2, _⟩ => rfl

/-- On agreeing arguments each device's result is the reference's. -/
theorem out_eq (x : FVec Ideal S1024x256 .f32) (ix : IVec S1024x1 32) (W : FVec Ideal ⟨3, ![128, 256, 512]⟩ .f32)
    (hx : ∀ c : Dev nD, m ((c : Thread nD τ).loc main_arg0) = x) (hi : ∀ c : Dev nD, m ((c : Thread nD τ).loc main_arg2) = ix)
    (hw : ∀ c : Dev nD, m ((c : Thread nD τ).loc main_arg3) = Layout.block ⟨3, ![4, 256, 512]⟩ ⟨3, ![128, 256, 512]⟩ 0 32 c W (by decide)) (c : Dev nD) :
    outAt m ρ c = refOut x ix W := by
  refine funext fun (p : S1024x512.Idx) => ?_
  have hp : p = ix2 (p 0) (p 1) := funext fun a => match a with
    | ⟨0, _⟩ => rfl
    | ⟨1, _⟩ => rfl
  rw [hp]
  exact (outAt_at m ρ ix x (fun e k f => W (ix3 e k f)) (fun c => (istg_eq m ρ c).trans (hi c)) (fun c => (xstg_eq m ρ c).trans (hx c))
    (fun c j k f h => (congrFun ((wstg_eq m ρ c).trans (hw c)) (ix3 j k f)).trans (block_of W c j k f h)) c (p 0) (p 1)).trans
    (refOut_at x ix W (p 0) (p 1)).symm

/-- The kernel computes the reference's function over the extended reals. -/
theorem algebraic : Cert.algebraic_KernelIdeal_ReferenceIdeal := by
  intro m ρ m' ρ' _ hagree
  refine ⟨refOut (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg2))
    (m' (((0 : Dev Cert.ReferenceIdeal.nD).tc : Thread Cert.ReferenceIdeal.nD Cert.ReferenceIdeal.τ).loc Cert.ReferenceIdeal.main_arg3)), ?_, ?_⟩
  · exact (θ_run defs _ _).mono (fun r h c => ⟨(h c).1.trans (out_eq m ρ _ _ _ (fun c => (hagree c).1) (fun c => (hagree c).2.2.1) (fun c => (hagree c).2.2.2) c),
      (h c).2⟩) (run_value m ρ)
  · exact (θ_run Cert.ReferenceIdeal.defs _ _).mono (fun r h => h 0) (Cert.ReferenceIdeal.Value.run (F := Ideal) m' ρ')

end Cert.Exchange

end
-- ==== Proof.lean ====
/-
# The certificate

Every claim of this certificate, put together from the files under Proof/.
-/
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Frames
public import proofs.«01_k».proof.Proof.Algebraic

@[expose] public section

noncomputable section

namespace Cert.Proof

open Idealize.ShloMosaic Idealize.SL.Sem Cert.Kernel

/-- The whole certificate: the three frames, the reading over the extended reals, and the value claim. -/
theorem claim : Cert.Claim := ⟨Cert.Kernel.Gen.facts, Cert.KernelIdeal.Gen.facts, Cert.ReferenceIdeal.Gen.facts,
  Cert.Exchange.frame_kernel, Cert.Exchange.frame_ideal, Cert.Exchange.frame_reference, trivial, Cert.Exchange.algebraic⟩

end Cert.Proof

end
